-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9)) (m ((c.tc : Thread Cert.MergeKernelIdeal.nD Cert.MergeKernelIdeal.τ).loc Cert.MergeKernelIdeal.main_arg10)) (m ((c.tc : Thread Cert.MergeKernelIdeal.nD Cert.MergeKernelIdeal.τ).loc Cert.MergeKernelIdeal.main_arg11)) (m ((c.tc : Thread Cert.MergeKernelIdeal.nD Cert.MergeKernelIdeal.τ).loc Cert.MergeKernelIdeal.main_arg12))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_proj_finite [hPre_proj_finite : Cert.Pre_proj_finite.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11)) (m ((c.tc : Thread Cert.ProjKernelIdeal.nD Cert.ProjKernelIdeal.τ).loc Cert.ProjKernelIdeal.main_arg12))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))) = (fun _ => 1#1)

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_PleLastKernel (m : (ℓ : Loc Cert.PleLastKernel.nD Cert.PleLastKernel.τ Cert.PleLastKernel.sig) → Buf (Elt Bits) ℓ) : Prop :=
  True

def Pre_PleLastKernelIdeal (m : (ℓ : Loc Cert.PleLastKernelIdeal.nD Cert.PleLastKernelIdeal.τ Cert.PleLastKernelIdeal.sig) → Buf (Elt Ideal) ℓ) : Prop :=
  True

def Pre_PleLastReferenceIdeal (m : (ℓ : Loc Cert.PleLastReferenceIdeal.nD Cert.PleLastReferenceIdeal.τ Cert.PleLastReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11)
      ∧ r.2.mem ((c.tc : Thread Cert.ProjKernel.nD Cert.ProjKernel.τ).loc Cert.ProjKernel.main_arg12) = m ((c.tc : Thread Cert.ProjKernel.nD Cert.ProjKernel.τ).loc Cert.ProjKernel.main_arg12))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12))
      ∧ r.2.sem = fun _ => 0)

def quiescent_ProjKernelIdeal_pre_proj_finite [hProjKernelIdeal : Cert.ProjKernelIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_proj_finite m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_PleLastKernel [hPleLastKernel : Cert.PleLastKernel.Facts] : Prop :=
  ∀ (m : (ℓ : Loc Cert.PleLastKernel.nD Cert.PleLastKernel.τ Cert.PleLastKernel.sig) → Buf (Elt Bits) ℓ) (g : Dev Cert.PleLastKernel.nD → PrngReg), Pre_PleLastKernel m →
    θ_run (Cert.PleLastKernel.defs (F := Bits)) (onTc (τ := Cert.PleLastKernel.τ) (Cert.PleLastKernel.main (F := Bits))) ⟨m, fun _ => 0, g⟩ (fun r => (∀ c : Dev Cert.PleLastKernel.nD,
      r.2.mem ((c.tc : Thread Cert.PleLastKernel.nD Cert.PleLastKernel.τ).loc Cert.PleLastKernel.main_arg0) = m ((c.tc : Thread Cert.PleLastKernel.nD Cert.PleLastKernel.τ).loc Cert.PleLastKernel.main_arg0)
      ∧ r.2.mem ((c.tc : Thread Cert.PleLastKernel.nD Cert.PleLastKernel.τ).loc Cert.PleLastKernel.main_arg1) = m ((c.tc : Thread Cert.PleLastKernel.nD Cert.PleLastKernel.τ).loc Cert.PleLastKernel.main_arg1)
      ∧ r.2.mem ((c.tc : Thread Cert.PleLastKernel.nD Cert.PleLastKernel.τ).loc Cert.PleLastKernel.main_arg2) = m ((c.tc : Thread Cert.PleLastKernel.nD Cert.PleLastKernel.τ).loc Cert.PleLastKernel.main_arg2)
      ∧ r.2.mem ((c.tc : Thread Cert.PleLastKernel.nD Cert.PleLastKernel.τ).loc Cert.PleLastKernel.main_arg3) = m ((c.tc : Thread Cert.PleLastKernel.nD Cert.PleLastKernel.τ).loc Cert.PleLastKernel.main_arg3)
      ∧ r.2.mem ((c.tc : Thread Cert.PleLastKernel.nD Cert.PleLastKernel.τ).loc Cert.PleLastKernel.main_arg4) = m ((c.tc : Thread Cert.PleLastKernel.nD Cert.PleLastKernel.τ).loc Cert.PleLastKernel.main_arg4)
      ∧ r.2.mem ((c.tc : Thread Cert.PleLastKernel.nD Cert.PleLastKernel.τ).loc Cert.PleLastKernel.main_arg5) = m ((c.tc : Thread Cert.PleLastKernel.nD Cert.PleLastKernel.τ).loc Cert.PleLastKernel.main_arg5))
      ∧ r.2.sem = fun _ => 0)

def quiescent_PleLastKernelIdeal [hPleLastKernelIdeal : Cert.PleLastKernelIdeal.Facts] : Prop :=
  ∀ (m : (ℓ : Loc Cert.PleLastKernelIdeal.nD Cert.PleLastKernelIdeal.τ Cert.PleLastKernelIdeal.sig) → Buf (Elt Ideal) ℓ) (g : Dev Cert.PleLastKernelIdeal.nD → PrngReg), Pre_PleLastKernelIdeal m →
    θ_run (Cert.PleLastKernelIdeal.defs (F := Ideal)) (onTc (τ := Cert.PleLastKernelIdeal.τ) (Cert.PleLastKernelIdeal.main (F := Ideal))) ⟨m, fun _ => 0, g⟩ (fun r => (∀ c : Dev Cert.PleLastKernelIdeal.nD,
      r.2.mem ((c.tc : Thread Cert.PleLastKernelIdeal.nD Cert.PleLastKernelIdeal.τ).loc Cert.PleLastKernelIdeal.main_arg0) = m ((c.tc : Thread Cert.PleLastKernelIdeal.nD Cert.PleLastKernelIdeal.τ).loc Cert.PleLastKernelIdeal.main_arg0)
      ∧ r.2.mem ((c.tc : Thread Cert.PleLastKernelIdeal.nD Cert.PleLastKernelIdeal.τ).loc Cert.PleLastKernelIdeal.main_arg1) = m ((c.tc : Thread Cert.PleLastKernelIdeal.nD Cert.PleLastKernelIdeal.τ).loc Cert.PleLastKernelIdeal.main_arg1)
      ∧ r.2.mem ((c.tc : Thread Cert.PleLastKernelIdeal.nD Cert.PleLastKernelIdeal.τ).loc Cert.PleLastKernelIdeal.main_arg2) = m ((c.tc : Thread Cert.PleLastKernelIdeal.nD Cert.PleLastKernelIdeal.τ).loc Cert.PleLastKernelIdeal.main_arg2)
      ∧ r.2.mem ((c.tc : Thread Cert.PleLastKernelIdeal.nD Cert.PleLastKernelIdeal.τ).loc Cert.PleLastKernelIdeal.main_arg3) = m ((c.tc : Thread Cert.PleLastKernelIdeal.nD Cert.PleLastKernelIdeal.τ).loc Cert.PleLastKernelIdeal.main_arg3)
      ∧ r.2.mem ((c.tc : Thread Cert.PleLastKernelIdeal.nD Cert.PleLastKernelIdeal.τ).loc Cert.PleLastKernelIdeal.main_arg4) = m ((c.tc : Thread Cert.PleLastKernelIdeal.nD Cert.PleLastKernelIdeal.τ).loc Cert.PleLastKernelIdeal.main_arg4)
      ∧ r.2.mem ((c.tc : Thread Cert.PleLastKernelIdeal.nD Cert.PleLastKernelIdeal.τ).loc Cert.PleLastKernelIdeal.main_arg5) = m ((c.tc : Thread Cert.PleLastKernelIdeal.nD Cert.PleLastKernelIdeal.τ).loc Cert.PleLastKernelIdeal.main_arg5))
      ∧ r.2.sem = fun _ => 0)

def quiescent_PleLastReferenceIdeal [hPleLastReferenceIdeal : Cert.PleLastReferenceIdeal.Facts] : Prop :=
  ∀ (m : (ℓ : Loc Cert.PleLastReferenceIdeal.nD Cert.PleLastReferenceIdeal.τ Cert.PleLastReferenceIdeal.sig) → Buf (Elt Ideal) ℓ) (g : Dev Cert.PleLastReferenceIdeal.nD → PrngReg), Pre_PleLastReferenceIdeal m →
    θ_run (Cert.PleLastReferenceIdeal.defs (F := Ideal)) (onTc (τ := Cert.PleLastReferenceIdeal.τ) (Cert.PleLastReferenceIdeal.main (F := Ideal))) ⟨m, fun _ => 0, g⟩ (fun r => (∀ c : Dev Cert.PleLastReferenceIdeal.nD,
      r.2.mem ((c.tc : Thread Cert.PleLastReferenceIdeal.nD Cert.PleLastReferenceIdeal.τ).loc Cert.PleLastReferenceIdeal.main_arg0) = m ((c.tc : Thread Cert.PleLastReferenceIdeal.nD Cert.PleLastReferenceIdeal.τ).loc Cert.PleLastReferenceIdeal.main_arg0)
      ∧ r.2.mem ((c.tc : Thread Cert.PleLastReferenceIdeal.nD Cert.PleLastReferenceIdeal.τ).loc Cert.PleLastReferenceIdeal.main_arg1) = m ((c.tc : Thread Cert.PleLastReferenceIdeal.nD Cert.PleLastReferenceIdeal.τ).loc Cert.PleLastReferenceIdeal.main_arg1)
      ∧ r.2.mem ((c.tc : Thread Cert.PleLastReferenceIdeal.nD Cert.PleLastReferenceIdeal.τ).loc Cert.PleLastReferenceIdeal.main_arg2) = m ((c.tc : Thread Cert.PleLastReferenceIdeal.nD Cert.PleLastReferenceIdeal.τ).loc Cert.PleLastReferenceIdeal.main_arg2)
      ∧ r.2.mem ((c.tc : Thread Cert.PleLastReferenceIdeal.nD Cert.PleLastReferenceIdeal.τ).loc Cert.PleLastReferenceIdeal.main_arg3) = m ((c.tc : Thread Cert.PleLastReferenceIdeal.nD Cert.PleLastReferenceIdeal.τ).loc Cert.PleLastReferenceIdeal.main_arg3)
      ∧ r.2.mem ((c.tc : Thread Cert.PleLastReferenceIdeal.nD Cert.PleLastReferenceIdeal.τ).loc Cert.PleLastReferenceIdeal.main_arg4) = m ((c.tc : Thread Cert.PleLastReferenceIdeal.nD Cert.PleLastReferenceIdeal.τ).loc Cert.PleLastReferenceIdeal.main_arg4)
      ∧ r.2.mem ((c.tc : Thread Cert.PleLastReferenceIdeal.nD Cert.PleLastReferenceIdeal.τ).loc Cert.PleLastReferenceIdeal.main_arg5) = m ((c.tc : Thread Cert.PleLastReferenceIdeal.nD Cert.PleLastReferenceIdeal.τ).loc Cert.PleLastReferenceIdeal.main_arg5))
      ∧ r.2.sem = fun _ => 0)

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v0)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v22) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v0)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v10) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MergeKernel_MergeKernelIdeal : Prop :=
  True

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)) →
    ∃ (v0 : (c : Dev Cert.MergeKernelIdeal.nD) → Buf (Elt Ideal) ((c.tc : Thread Cert.MergeKernelIdeal.nD Cert.MergeKernelIdeal.τ).loc Cert.MergeKernelIdeal.main_v5_0)) (v1 : (c : Dev Cert.MergeKernelIdeal.nD) → Buf (Elt Ideal) ((c.tc : Thread Cert.MergeKernelIdeal.nD Cert.MergeKernelIdeal.τ).loc Cert.MergeKernelIdeal.main_v5_1)) (v2 : (c : Dev Cert.MergeKernelIdeal.nD) → Buf (Elt Ideal) ((c.tc : Thread Cert.MergeKernelIdeal.nD Cert.MergeKernelIdeal.τ).loc Cert.MergeKernelIdeal.main_v5_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5_0) = v0 c
          ∧ r.2.mem ((c.tc : Thread Cert.MergeKernelIdeal.nD Cert.MergeKernelIdeal.τ).loc Cert.MergeKernelIdeal.main_v5_1) = v1 c
          ∧ r.2.mem ((c.tc : Thread Cert.MergeKernelIdeal.nD Cert.MergeKernelIdeal.τ).loc Cert.MergeKernelIdeal.main_v5_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v79) = v0 c
          ∧ r.2.mem ((c.tc : Thread Cert.MergeReferenceIdeal.nD Cert.MergeReferenceIdeal.τ).loc Cert.MergeReferenceIdeal.main_v104) = v1 c
          ∧ r.2.mem ((c.tc : Thread Cert.MergeReferenceIdeal.nD Cert.MergeReferenceIdeal.τ).loc Cert.MergeReferenceIdeal.main_v105) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_ProjKernel_ProjKernelIdeal : Prop :=
  True

def algebraic_ProjKernelIdeal_ProjReferenceIdeal_pre_proj_finite [hProjKernelIdeal : Cert.ProjKernelIdeal.Facts] [hProjReferenceIdeal : Cert.ProjReferenceIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_proj_finite m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)) →
    ∃ (v0 : (c : Dev Cert.ProjKernelIdeal.nD) → Buf (Elt Ideal) ((c.tc : Thread Cert.ProjKernelIdeal.nD Cert.ProjKernelIdeal.τ).loc Cert.ProjKernelIdeal.main_v0_0)) (v1 : (c : Dev Cert.ProjKernelIdeal.nD) → Buf (Elt Ideal) ((c.tc : Thread Cert.ProjKernelIdeal.nD Cert.ProjKernelIdeal.τ).loc Cert.ProjKernelIdeal.main_v0_1)) (v2 : (c : Dev Cert.ProjKernelIdeal.nD) → Buf (Elt Ideal) ((c.tc : Thread Cert.ProjKernelIdeal.nD Cert.ProjKernelIdeal.τ).loc Cert.ProjKernelIdeal.main_v0_2)) (v3 : (c : Dev Cert.ProjKernelIdeal.nD) → Buf (Elt Ideal) ((c.tc : Thread Cert.ProjKernelIdeal.nD Cert.ProjKernelIdeal.τ).loc Cert.ProjKernelIdeal.main_v0_3)) (v4 : (c : Dev Cert.ProjKernelIdeal.nD) → Buf (Elt Ideal) ((c.tc : Thread Cert.ProjKernelIdeal.nD Cert.ProjKernelIdeal.τ).loc Cert.ProjKernelIdeal.main_v0_4)) (v5 : (c : Dev Cert.ProjKernelIdeal.nD) → Buf (Elt Ideal) ((c.tc : Thread Cert.ProjKernelIdeal.nD Cert.ProjKernelIdeal.τ).loc Cert.ProjKernelIdeal.main_v0_5)) (v6 : (c : Dev Cert.ProjKernelIdeal.nD) → Buf (Elt Ideal) ((c.tc : Thread Cert.ProjKernelIdeal.nD Cert.ProjKernelIdeal.τ).loc Cert.ProjKernelIdeal.main_v0_6)) (v7 : (c : Dev Cert.ProjKernelIdeal.nD) → Buf (Elt Ideal) ((c.tc : Thread Cert.ProjKernelIdeal.nD Cert.ProjKernelIdeal.τ).loc Cert.ProjKernelIdeal.main_v0_7)) (v8 : (c : Dev Cert.ProjKernelIdeal.nD) → Buf (Elt Ideal) ((c.tc : Thread Cert.ProjKernelIdeal.nD Cert.ProjKernelIdeal.τ).loc Cert.ProjKernelIdeal.main_v0_8)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0_0) = v0 c
          ∧ r.2.mem ((c.tc : Thread Cert.ProjKernelIdeal.nD Cert.ProjKernelIdeal.τ).loc Cert.ProjKernelIdeal.main_v0_1) = v1 c
          ∧ r.2.mem ((c.tc : Thread Cert.ProjKernelIdeal.nD Cert.ProjKernelIdeal.τ).loc Cert.ProjKernelIdeal.main_v0_2) = v2 c
          ∧ r.2.mem ((c.tc : Thread Cert.ProjKernelIdeal.nD Cert.ProjKernelIdeal.τ).loc Cert.ProjKernelIdeal.main_v0_3) = v3 c
          ∧ r.2.mem ((c.tc : Thread Cert.ProjKernelIdeal.nD Cert.ProjKernelIdeal.τ).loc Cert.ProjKernelIdeal.main_v0_4) = v4 c
          ∧ r.2.mem ((c.tc : Thread Cert.ProjKernelIdeal.nD Cert.ProjKernelIdeal.τ).loc Cert.ProjKernelIdeal.main_v0_5) = v5 c
          ∧ r.2.mem ((c.tc : Thread Cert.ProjKernelIdeal.nD Cert.ProjKernelIdeal.τ).loc Cert.ProjKernelIdeal.main_v0_6) = v6 c
          ∧ r.2.mem ((c.tc : Thread Cert.ProjKernelIdeal.nD Cert.ProjKernelIdeal.τ).loc Cert.ProjKernelIdeal.main_v0_7) = v7 c
          ∧ r.2.mem ((c.tc : Thread Cert.ProjKernelIdeal.nD Cert.ProjKernelIdeal.τ).loc Cert.ProjKernelIdeal.main_v0_8) = v8 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
          ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v126) = v0 c
          ∧ r.2.mem ((c.tc : Thread Cert.ProjReferenceIdeal.nD Cert.ProjReferenceIdeal.τ).loc Cert.ProjReferenceIdeal.main_v127) = v1 c
          ∧ r.2.mem ((c.tc : Thread Cert.ProjReferenceIdeal.nD Cert.ProjReferenceIdeal.τ).loc Cert.ProjReferenceIdeal.main_v128) = v2 c
          ∧ r.2.mem ((c.tc : Thread Cert.ProjReferenceIdeal.nD Cert.ProjReferenceIdeal.τ).loc Cert.ProjReferenceIdeal.main_v129) = v3 c
          ∧ r.2.mem ((c.tc : Thread Cert.ProjReferenceIdeal.nD Cert.ProjReferenceIdeal.τ).loc Cert.ProjReferenceIdeal.main_v130) = v4 c
          ∧ r.2.mem ((c.tc : Thread Cert.ProjReferenceIdeal.nD Cert.ProjReferenceIdeal.τ).loc Cert.ProjReferenceIdeal.main_v131) = v5 c
          ∧ r.2.mem ((c.tc : Thread Cert.ProjReferenceIdeal.nD Cert.ProjReferenceIdeal.τ).loc Cert.ProjReferenceIdeal.main_v132) = v6 c
          ∧ r.2.mem ((c.tc : Thread Cert.ProjReferenceIdeal.nD Cert.ProjReferenceIdeal.τ).loc Cert.ProjReferenceIdeal.main_v133) = v7 c
          ∧ r.2.mem ((c.tc : Thread Cert.ProjReferenceIdeal.nD Cert.ProjReferenceIdeal.τ).loc Cert.ProjReferenceIdeal.main_v134) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)) →
    ∃ (v0 : (c : Dev Cert.PleKernelIdeal.nD) → Buf (Elt Ideal) ((c.tc : Thread Cert.PleKernelIdeal.nD Cert.PleKernelIdeal.τ).loc Cert.PleKernelIdeal.main_v0)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v0) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v23) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_PleLastKernel_PleLastKernelIdeal : Prop :=
  True

def algebraic_PleLastKernelIdeal_PleLastReferenceIdeal [hPleLastKernelIdeal : Cert.PleLastKernelIdeal.Facts] [hPleLastReferenceIdeal : Cert.PleLastReferenceIdeal.Facts] : Prop :=
  ∀ (m : (ℓ : Loc Cert.PleLastKernelIdeal.nD Cert.PleLastKernelIdeal.τ Cert.PleLastKernelIdeal.sig) → Buf (Elt Ideal) ℓ) (g : Dev Cert.PleLastKernelIdeal.nD → PrngReg)
    (m' : (ℓ : Loc Cert.PleLastReferenceIdeal.nD Cert.PleLastReferenceIdeal.τ Cert.PleLastReferenceIdeal.sig) → Buf (Elt Ideal) ℓ) (g' : Dev Cert.PleLastReferenceIdeal.nD → PrngReg), Pre_PleLastKernelIdeal m →
    (∀ c : Dev Cert.PleLastKernelIdeal.nD,
      m' ((c.tc : Thread Cert.PleLastReferenceIdeal.nD Cert.PleLastReferenceIdeal.τ).loc Cert.PleLastReferenceIdeal.main_arg0) = m ((c.tc : Thread Cert.PleLastKernelIdeal.nD Cert.PleLastKernelIdeal.τ).loc Cert.PleLastKernelIdeal.main_arg0)
      ∧ m' ((c.tc : Thread Cert.PleLastReferenceIdeal.nD Cert.PleLastReferenceIdeal.τ).loc Cert.PleLastReferenceIdeal.main_arg1) = m ((c.tc : Thread Cert.PleLastKernelIdeal.nD Cert.PleLastKernelIdeal.τ).loc Cert.PleLastKernelIdeal.main_arg1)
      ∧ m' ((c.tc : Thread Cert.PleLastReferenceIdeal.nD Cert.PleLastReferenceIdeal.τ).loc Cert.PleLastReferenceIdeal.main_arg2) = m ((c.tc : Thread Cert.PleLastKernelIdeal.nD Cert.PleLastKernelIdeal.τ).loc Cert.PleLastKernelIdeal.main_arg2)
      ∧ m' ((c.tc : Thread Cert.PleLastReferenceIdeal.nD Cert.PleLastReferenceIdeal.τ).loc Cert.PleLastReferenceIdeal.main_arg3) = m ((c.tc : Thread Cert.PleLastKernelIdeal.nD Cert.PleLastKernelIdeal.τ).loc Cert.PleLastKernelIdeal.main_arg3)
      ∧ m' ((c.tc : Thread Cert.PleLastReferenceIdeal.nD Cert.PleLastReferenceIdeal.τ).loc Cert.PleLastReferenceIdeal.main_arg4) = m ((c.tc : Thread Cert.PleLastKernelIdeal.nD Cert.PleLastKernelIdeal.τ).loc Cert.PleLastKernelIdeal.main_arg4)
      ∧ m' ((c.tc : Thread Cert.PleLastReferenceIdeal.nD Cert.PleLastReferenceIdeal.τ).loc Cert.PleLastReferenceIdeal.main_arg5) = m ((c.tc : Thread Cert.PleLastKernelIdeal.nD Cert.PleLastKernelIdeal.τ).loc Cert.PleLastKernelIdeal.main_arg5)) →
    ∃ (v0 : (c : Dev Cert.PleLastKernelIdeal.nD) → Buf (Elt Ideal) ((c.tc : Thread Cert.PleLastKernelIdeal.nD Cert.PleLastKernelIdeal.τ).loc Cert.PleLastKernelIdeal.main_v0)),
      θ_run (Cert.PleLastKernelIdeal.defs (F := Ideal)) (onTc (τ := Cert.PleLastKernelIdeal.τ) (Cert.PleLastKernelIdeal.main (F := Ideal))) ⟨m, fun _ => 0, g⟩ (fun r => ∀ c : Dev Cert.PleLastKernelIdeal.nD,
          r.2.mem ((c.tc : Thread Cert.PleLastKernelIdeal.nD Cert.PleLastKernelIdeal.τ).loc Cert.PleLastKernelIdeal.main_v0) = v0 c
          ∧ r.2.mem ((c.tc : Thread Cert.PleLastKernelIdeal.nD Cert.PleLastKernelIdeal.τ).loc Cert.PleLastKernelIdeal.main_arg0) = m ((c.tc : Thread Cert.PleLastKernelIdeal.nD Cert.PleLastKernelIdeal.τ).loc Cert.PleLastKernelIdeal.main_arg0)
          ∧ r.2.mem ((c.tc : Thread Cert.PleLastKernelIdeal.nD Cert.PleLastKernelIdeal.τ).loc Cert.PleLastKernelIdeal.main_arg1) = m ((c.tc : Thread Cert.PleLastKernelIdeal.nD Cert.PleLastKernelIdeal.τ).loc Cert.PleLastKernelIdeal.main_arg1)
          ∧ r.2.mem ((c.tc : Thread Cert.PleLastKernelIdeal.nD Cert.PleLastKernelIdeal.τ).loc Cert.PleLastKernelIdeal.main_arg2) = m ((c.tc : Thread Cert.PleLastKernelIdeal.nD Cert.PleLastKernelIdeal.τ).loc Cert.PleLastKernelIdeal.main_arg2)
          ∧ r.2.mem ((c.tc : Thread Cert.PleLastKernelIdeal.nD Cert.PleLastKernelIdeal.τ).loc Cert.PleLastKernelIdeal.main_arg3) = m ((c.tc : Thread Cert.PleLastKernelIdeal.nD Cert.PleLastKernelIdeal.τ).loc Cert.PleLastKernelIdeal.main_arg3)
          ∧ r.2.mem ((c.tc : Thread Cert.PleLastKernelIdeal.nD Cert.PleLastKernelIdeal.τ).loc Cert.PleLastKernelIdeal.main_arg4) = m ((c.tc : Thread Cert.PleLastKernelIdeal.nD Cert.PleLastKernelIdeal.τ).loc Cert.PleLastKernelIdeal.main_arg4)
          ∧ r.2.mem ((c.tc : Thread Cert.PleLastKernelIdeal.nD Cert.PleLastKernelIdeal.τ).loc Cert.PleLastKernelIdeal.main_arg5) = m ((c.tc : Thread Cert.PleLastKernelIdeal.nD Cert.PleLastKernelIdeal.τ).loc Cert.PleLastKernelIdeal.main_arg5))
      ∧ θ_run (Cert.PleLastReferenceIdeal.defs (F := Ideal)) (onTc (τ := Cert.PleLastReferenceIdeal.τ) (Cert.PleLastReferenceIdeal.main (F := Ideal))) ⟨m', fun _ => 0, g'⟩ (fun r => ∀ c : Dev Cert.PleLastReferenceIdeal.nD,
          r.2.mem ((c.tc : Thread Cert.PleLastReferenceIdeal.nD Cert.PleLastReferenceIdeal.τ).loc Cert.PleLastReferenceIdeal.main_v35) = v0 c
          ∧ r.2.mem ((c.tc : Thread Cert.PleLastReferenceIdeal.nD Cert.PleLastReferenceIdeal.τ).loc Cert.PleLastReferenceIdeal.main_arg0) = m' ((c.tc : Thread Cert.PleLastReferenceIdeal.nD Cert.PleLastReferenceIdeal.τ).loc Cert.PleLastReferenceIdeal.main_arg0)
          ∧ r.2.mem ((c.tc : Thread Cert.PleLastReferenceIdeal.nD Cert.PleLastReferenceIdeal.τ).loc Cert.PleLastReferenceIdeal.main_arg1) = m' ((c.tc : Thread Cert.PleLastReferenceIdeal.nD Cert.PleLastReferenceIdeal.τ).loc Cert.PleLastReferenceIdeal.main_arg1)
          ∧ r.2.mem ((c.tc : Thread Cert.PleLastReferenceIdeal.nD Cert.PleLastReferenceIdeal.τ).loc Cert.PleLastReferenceIdeal.main_arg2) = m' ((c.tc : Thread Cert.PleLastReferenceIdeal.nD Cert.PleLastReferenceIdeal.τ).loc Cert.PleLastReferenceIdeal.main_arg2)
          ∧ r.2.mem ((c.tc : Thread Cert.PleLastReferenceIdeal.nD Cert.PleLastReferenceIdeal.τ).loc Cert.PleLastReferenceIdeal.main_arg3) = m' ((c.tc : Thread Cert.PleLastReferenceIdeal.nD Cert.PleLastReferenceIdeal.τ).loc Cert.PleLastReferenceIdeal.main_arg3)
          ∧ r.2.mem ((c.tc : Thread Cert.PleLastReferenceIdeal.nD Cert.PleLastReferenceIdeal.τ).loc Cert.PleLastReferenceIdeal.main_arg4) = m' ((c.tc : Thread Cert.PleLastReferenceIdeal.nD Cert.PleLastReferenceIdeal.τ).loc Cert.PleLastReferenceIdeal.main_arg4)
          ∧ r.2.mem ((c.tc : Thread Cert.PleLastReferenceIdeal.nD Cert.PleLastReferenceIdeal.τ).loc Cert.PleLastReferenceIdeal.main_arg5) = m' ((c.tc : Thread Cert.PleLastReferenceIdeal.nD Cert.PleLastReferenceIdeal.τ).loc Cert.PleLastReferenceIdeal.main_arg5))

def Claim : Prop :=
  ∃ (hAttnKernel : Cert.AttnKernel.Facts) (hAttnKernelIdeal : Cert.AttnKernelIdeal.Facts) (hAttnReferenceIdeal : Cert.AttnReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hProjKernel : Cert.ProjKernel.Facts) (hProjKernelIdeal : Cert.ProjKernelIdeal.Facts) (hProjReferenceIdeal : Cert.ProjReferenceIdeal.Facts) (hPleKernel : Cert.PleKernel.Facts) (hPleKernelIdeal : Cert.PleKernelIdeal.Facts) (hPleReferenceIdeal : Cert.PleReferenceIdeal.Facts) (hPleLastKernel : Cert.PleLastKernel.Facts) (hPleLastKernelIdeal : Cert.PleLastKernelIdeal.Facts) (hPleLastReferenceIdeal : Cert.PleLastReferenceIdeal.Facts) (hPre_attn_finite : Cert.Pre_attn_finite.Facts) (hPre_merge_finite : Cert.Pre_merge_finite.Facts) (hPre_proj_finite : Cert.Pre_proj_finite.Facts),
    quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_ProjKernel (hProjKernel := hProjKernel)
    ∧ quiescent_ProjKernelIdeal (hProjKernelIdeal := hProjKernelIdeal)
    ∧ quiescent_ProjKernelIdeal_pre_proj_finite (hProjKernelIdeal := hProjKernelIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_PleLastKernel (hPleLastKernel := hPleLastKernel)
    ∧ quiescent_PleLastKernelIdeal (hPleLastKernelIdeal := hPleLastKernelIdeal)
    ∧ quiescent_PleLastReferenceIdeal (hPleLastReferenceIdeal := hPleLastReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_ProjKernel_ProjKernelIdeal
    ∧ algebraic_ProjKernelIdeal_ProjReferenceIdeal_pre_proj_finite (hProjKernelIdeal := hProjKernelIdeal) (hProjReferenceIdeal := hProjReferenceIdeal) (hPre_proj_finite := hPre_proj_finite)
    ∧ preserves_PleKernel_PleKernelIdeal
    ∧ algebraic_PleKernelIdeal_PleReferenceIdeal (hPleKernelIdeal := hPleKernelIdeal) (hPleReferenceIdeal := hPleReferenceIdeal)
    ∧ preserves_PleLastKernel_PleLastKernelIdeal
    ∧ algebraic_PleLastKernelIdeal_PleLastReferenceIdeal (hPleLastKernelIdeal := hPleLastKernelIdeal) (hPleLastReferenceIdeal := hPleLastReferenceIdeal)
-- ==== Pre_attn_finite.lean ====
abbrev S16x4096x256 : Shape := ⟨3, ![16, 4096, 256]⟩
abbrev S16x4096x128 : Shape := ⟨3, ![16, 4096, 128]⟩
abbrev S_ : Shape := ⟨0, ![]⟩

class Facts : Prop where
  bitsLt_bf16_f32 : FTy.bits .bf16 < FTy.bits .f32
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x4096x128 : S_.BroadcastsInDim S16x4096x128 (![] : Fin 0 → Fin S16x4096x128.rank)
  reducesTo_S16x4096x128_S_d0_1_2 : S16x4096x128.ReducesTo [0, 1, 2] S_

variable [Facts]

def fn {F : FTy → Type} [FloatOps F] (main_arg0 : FVec F S16x4096x256 .bf16) (main_arg1 : FVec F S16x4096x128 .bf16) (main_arg2 : FVec F S16x4096x128 .bf16) : IVec S_ 1 :=
  let main_v0 : FVec F S16x4096x256 .f32 := (extf .f32 · bitsLt_bf16_f32) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  let main_c : IVec S_ 1 := constantI S_ 1 1#1
  let main_v4 : IVec S_ 1 := (fun x v => Host.reduce IntOp.andi x v reducesTo_S16x4096x256_S_d0_1_2 h_S_) main_v3 main_c
  let main_v5 : FVec F S16x4096x128 .f32 := (extf .f32 · bitsLt_bf16_f32) main_arg1
  let main_v6 : FVec F S16x4096x128 .f32 := Host.absf main_v5
  let main_cst_0 : FVec F S_ .f32 := constant S_ .f32 0x7F800000#32
  let main_v7 : FVec F S16x4096x128 .f32 := broadcastInDim S16x4096x128 ![] bcast_S_S16x4096x128 main_cst_0
  let main_v8 : IVec S16x4096x128 1 := cmpf .olt main_v6 main_v7
  let main_c_1 : IVec S_ 1 := constantI S_ 1 1#1
  let main_v9 : IVec S_ 1 := (fun x v => Host.reduce IntOp.andi x v reducesTo_S16x4096x128_S_d0_1_2 h_S_) main_v8 main_c_1
  let main_v10 : IVec S_ 1 := andi main_v4 main_v9
  main_v10
-- ==== Pre_merge_finite.lean ====
abbrev S65536x1024 : Shape := ⟨2, ![65536, 1024]⟩
abbrev S65536x256 : Shape := ⟨2, ![65536, 256]⟩
abbrev S1x1024 : Shape := ⟨2, ![1, 1024]⟩
abbrev S1024x4096 : Shape := ⟨2, ![1024, 4096]⟩
abbrev S4x256x1024 : Shape := ⟨3, ![4, 256, 1024]⟩
abbrev S1024x1024 : Shape := ⟨2, ![1024, 1024]⟩
abbrev S1x256 : Shape := ⟨2, ![1, 256]⟩
abbrev S1024x16 : Shape := ⟨2, ![1024, 16]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S65536x1024 .f32) (main_arg1 : FVec F S65536x256 .bf16) (main_arg2 : FVec F S65536x256 .bf16) (main_arg3 : FVec F S65536x256 .bf16) (main_arg4 : FVec F S65536x256 .f32) (main_arg5 : FVec F S65536x1024 .bf16) (main_arg6 : FVec F S1x1024 .f32) (main_arg7 : FVec F S1024x4096 .bf16) (main_arg8 : FVec F S4x256x1024 .bf16) (main_arg9 : FVec F S1024x1024 .bf16) (main_arg10 : FVec F S1x256 .f32) (main_arg11 : FVec F S1x1024 .f32) (main_arg12 : FVec F S1024x16 .f32) : IVec S_ 1 :=
  let main_v0 : FVec F S65536x256 .f32 := Host.absf main_arg4
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1x1024 .f32 := Host.absf main_arg11
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x16 .f32 := Host.absf main_arg12
  let main_cst_2 : FVec F S_ .f32 := constant S_ .f32 0x7F800000#32
  let main_v9 : FVec F S1024x16 .f32 := broadcastInDim S1024x16 ![] bcast_S_S1024x16 main_cst_2
  let main_v10 : IVec S1024x16 1 := cmpf .olt main_v8 main_v9
  let main_c_3 : IVec S_ 1 := constantI S_ 1 1#1
  let main_v11 : IVec S_ 1 := (fun x v => Host.reduce IntOp.andi x v reducesTo_S1024x16_S_d0_1 h_S_) main_v10 main_c_3
  let main_v12 : IVec S_ 1 := andi main_v3 main_v7
  let main_v13 : IVec S_ 1 := andi main_v12 main_v11
  main_v13
-- ==== Pre_proj_finite.lean ====
abbrev S65536x1024 : Shape := ⟨2, ![65536, 1024]⟩
abbrev S1x1024 : Shape := ⟨2, ![1, 1024]⟩
abbrev S1024x512 : Shape := ⟨2, ![1024, 512]⟩
abbrev S1024x1024 : Shape := ⟨2, ![1024, 1024]⟩
abbrev S1024x128 : Shape := ⟨2, ![1024, 128]⟩
abbrev S1x256 : Shape := ⟨2, ![1, 256]⟩
abbrev S1x128 : Shape := ⟨2, ![1, 128]⟩
abbrev S4096x128 : Shape := ⟨2, ![4096, 128]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S65536x1024 .f32) (main_arg1 : FVec F S1x1024 .f32) (main_arg2 : FVec F S1024x512 .bf16) (main_arg3 : FVec F S1024x512 .bf16) (main_arg4 : FVec F S1024x512 .bf16) (main_arg5 : FVec F S1024x1024 .bf16) (main_arg6 : FVec F S1024x128 .bf16) (main_arg7 : FVec F S1x256 .f32) (main_arg8 : FVec F S1x128 .f32) (main_arg9 : FVec F S4096x128 .f32) (main_arg10 : FVec F S4096x128 .f32) (main_arg11 : FVec F S4096x128 .f32) (main_arg12 : FVec F S4096x128 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x512 .f32 := (extf .f32 · bitsLt_bf16_f32) main_arg2
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_c_1 : IVec S_ 1 := constantI S_ 1 1#1
  let main_v8 : IVec S_ 1 := (fun x v => Host.reduce IntOp.andi x v reducesTo_S1024x512_S_d0_1 h_S_) main_v7 main_c_1
  let main_v9 : IVec S_ 1 := andi main_v3 main_v8
  main_v9
-- ==== AttnKernel.lean ====
abbrev S16x4096x256 : Shape := ⟨3, ![16, 4096, 256]⟩
abbrev S16x4096x128 : Shape := ⟨3, ![16, 4096, 128]⟩
abbrev S1x256x256 : Shape := ⟨3, ![1, 256, 256]⟩
abbrev S1x4096x128 : Shape := ⟨3, ![1, 4096, 128]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S1x512x128 : Shape := ⟨3, ![1, 512, 128]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16x4096x256, .bf16⟩
  | .hbm, ⟨1, _⟩ => ⟨S16x4096x128, .bf16⟩
  | .hbm, ⟨2, _⟩ => ⟨S16x4096x128, .bf16⟩
  | .hbm, ⟨3, _⟩ => ⟨S16x4096x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x256, .bf16⟩
  | .local _ .vmem, ⟨7, _⟩ => ⟨S1x256x256, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c8_i32 : BitVec 32 := 8#32
  let v23 : BitVec 32 := Scalar.addi c0_i32 c8_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v76 : BitVec 32 := Scalar.muli arg9 c512_i32
  v76
def k0_off1 (k0_t1 : Fin k0_t1_loop.trips) : Fin 3 → Nat :=
  let c0_47 : Index := 0#32
  let c0_i32 : BitVec 32 := 0#32
  let c1_i32 : BitVec 32 := 1#32
  let arg9 : BitVec 32 := Scf.iv c0_i32 c1_i32 k0_t1
  let c512_i32 : BitVec 32 := 512#32
  let v76 : BitVec 32 := Scalar.muli arg9 c512_i32
  let v77 : BitVec 32 := v76
  let v78 : Index := Scalar.indexCast v77
  let c0_48 : Index := 0#32
  ![0, v78.toNat, 0]
@[reducible] def k0_t2_loop : Scf.Loop 32 :=
  let c0_i32_35 : BitVec 32 := 0#32
  let c8_i32_36 : BitVec 32 := 8#32
  let v61 : BitVec 32 := Scalar.addi c0_i32_35 c8_i32_36
  let c1_i32_37 : BitVec 32 := 1#32
  ⟨c0_i32_35, v61, c1_i32_37⟩
def k0_mult2 (k0_t2 : Fin k0_t2_loop.trips) : BitVec 32 :=
  let c0_i32_35 : BitVec 32 := 0#32
  let c1_i32_37 : BitVec 32 := 1#32
  let arg9 : BitVec 32 := Scf.iv c0_i32_35 c1_i32_37 k0_t2
  let c512_i32 : BitVec 32 := 512#32
  let v76 : BitVec 32 := Scalar.muli arg9 c512_i32
  v76
def k0_off2 (k0_t2 : Fin k0_t2_loop.trips) : Fin 3 → Nat :=
  let c0_47 : Index := 0#32
  let c0_i32_35 : BitVec 32 := 0#32
  let c1_i32_37 : BitVec 32 := 1#32
  let arg9 : BitVec 32 := Scf.iv c0_i32_35 c1_i32_37 k0_t2
  let c512_i32 : BitVec 32 := 512#32
  let v76 : BitVec 32 := Scalar.muli arg9 c512_i32
  let v77 : BitVec 32 := v76
  let v78 : Index := Scalar.indexCast v77
  let c0_48 : Index := 0#32
  ![0, v78.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnReferenceIdeal.lean ====
abbrev S16x4096x256 : Shape := ⟨3, ![16, 4096, 256]⟩
abbrev S16x4096x128 : Shape := ⟨3, ![16, 4096, 128]⟩
abbrev S16x4096x2x2x64 : Shape := ⟨5, ![16, 4096, 2, 2, 64]⟩
abbrev S16x4096x2x64 : Shape := ⟨4, ![16, 4096, 2, 64]⟩
abbrev S16x2x4096x4096x2 : Shape := ⟨5, ![16, 2, 4096, 4096, 2]⟩
abbrev S16x2x2x4096x4096 : Shape := ⟨5, ![16, 2, 2, 4096, 4096]⟩
abbrev S_ : Shape := ⟨0, ![]⟩
abbrev S16x2x2x4096 : Shape := ⟨4, ![16, 2, 2, 4096]⟩
abbrev S16x2x2x4096x1 : Shape := ⟨5, ![16, 2, 2, 4096, 1]⟩
abbrev S16x2x64x2x4096 : Shape := ⟨5, ![16, 2, 64, 2, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x128, .bf16⟩
  | .hbm, ⟨2, _⟩ => ⟨S16x4096x128, .bf16⟩
  | .hbm, ⟨3, _⟩ => ⟨S16x4096x256, .f32⟩
  | .hbm, ⟨4, _⟩ => ⟨S16x4096x2x2x64, .f32⟩
  | .hbm, ⟨5, _⟩ => ⟨S16x4096x128, .f32⟩
  | .hbm, ⟨6, _⟩ => ⟨S16x4096x2x64, .f32⟩
  | .hbm, ⟨7, _⟩ => ⟨S16x4096x128, .f32⟩
  | .hbm, ⟨8, _⟩ => ⟨S16x4096x2x64, .f32⟩
  | .hbm, ⟨9, _⟩ => ⟨S16x2x4096x4096x2, .f32⟩
  | .hbm, ⟨10, _⟩ => ⟨S16x2x2x4096x4096, .f32⟩
  | .hbm, ⟨11, _⟩ => ⟨S_, .f32⟩
  | .hbm, ⟨12, _⟩ => ⟨S16x2x2x4096, .f32⟩
  | .hbm, ⟨13, _⟩ => ⟨S16x2x2x4096x1, .f32⟩
  | .hbm, ⟨14, _⟩ => ⟨S16x2x2x4096x4096, .f32⟩
  | .hbm, ⟨15, _⟩ => ⟨S16x2x2x4096x4096, .f32⟩
  | .hbm, ⟨16, _⟩ => ⟨S16x2x2x4096x4096, .f32⟩
  | .hbm, ⟨17, _⟩ => ⟨S_, .f32⟩
  | .hbm, ⟨18, _⟩ => ⟨S16x2x2x4096, .f32⟩
  | .hbm, ⟨19, _⟩ => ⟨S16x2x2x4096x1, .f32⟩
  | .hbm, ⟨20, _⟩ => ⟨S16x2x2x4096x4096, .f32⟩
  | .hbm, ⟨21, _⟩ => ⟨S16x2x2x4096x4096, .f32⟩
  | .hbm, ⟨22, _⟩ => ⟨S16x2x2x4096x4096, .bf16⟩
  | .hbm, ⟨23, _⟩ => ⟨S16x2x2x4096x4096, .f32⟩
  | .hbm, ⟨24, _⟩ => ⟨S16x2x64x2x4096, .f32⟩
  | .hbm, ⟨25, _⟩ => ⟨S16x4096x2x2x64, .f32⟩
  | .hbm, ⟨26, _⟩ => ⟨S16x4096x256, .f32⟩
  | .hbm, ⟨27, _⟩ => ⟨S16x4096x256, .bf16⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== FfnKernel.lean ====
abbrev S16x8192x1024 : Shape := ⟨3, ![16, 8192, 1024]⟩
abbrev S16x1024x1024 : Shape := ⟨3, ![16, 1024, 1024]⟩
abbrev S16x8192x1 : Shape := ⟨3, ![16, 8192, 1]⟩
abbrev S1x512x1024 : Shape := ⟨3, ![1, 512, 1024]⟩
abbrev S1x1024x1024 : Shape := ⟨3, ![1, 1024, 1024]⟩
abbrev S1x512x1 : Shape := ⟨3, ![1, 512, 1]⟩
abbrev S512x1024 : Shape := ⟨2, ![512, 1024]⟩
abbrev S1024x1024 : Shape := ⟨2, ![1024, 1024]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x8192x1024, .bf16⟩
  | .hbm, ⟨1, _⟩ => ⟨S16x1024x1024, .bf16⟩
  | .hbm, ⟨2, _⟩ => ⟨S16x1024x1024, .bf16⟩
  | .hbm, ⟨3, _⟩ => ⟨S16x1024x1024, .bf16⟩
  | .hbm, ⟨4, _⟩ => ⟨S16x8192x1, .f32⟩
  | .hbm, ⟨5, _⟩ => ⟨S16x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1, .f32⟩
  | .local _ .vmem, ⟨9, _⟩ => ⟨S1x512x1, .f32⟩
  | .local _ .vmem, ⟨10, _⟩ => ⟨S1x512x1024, .f32⟩
  | .local _ .vmem, ⟨11, _⟩ => ⟨S1x512x1024, .f32⟩
  | _, _ => ⟨S16x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S16x8192x1024 : Shape := ⟨3, ![16, 8192, 1024]⟩
abbrev S16x1024x1024 : Shape := ⟨3, ![16, 1024, 1024]⟩
abbrev S16x8192x1 : Shape := ⟨3, ![16, 8192, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x8192x1024, .bf16⟩
  | .hbm, ⟨1, _⟩ => ⟨S16x1024x1024, .bf16⟩
  | .hbm, ⟨2, _⟩ => ⟨S16x1024x1024, .bf16⟩
  | .hbm, ⟨3, _⟩ => ⟨S16x1024x1024, .bf16⟩
  | .hbm, ⟨4, _⟩ => ⟨S16x8192x1, .f32⟩
  | .hbm, ⟨5, _⟩ => ⟨S16x8192x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S16x8192x1024, .f32⟩
  | .hbm, ⟨10, _⟩ => ⟨S16x8192x1024, .f32⟩
  | .hbm, ⟨11, _⟩ => ⟨S16x8192x1024, .f32⟩
  | .hbm, ⟨12, _⟩ => ⟨S_, .f32⟩
  | .hbm, ⟨13, _⟩ => ⟨S16x8192x1024, .f32⟩
  | .hbm, ⟨14, _⟩ => ⟨S16x8192x1024, .f32⟩
  | .hbm, ⟨15, _⟩ => ⟨S_, .f32⟩
  | .hbm, ⟨16, _⟩ => ⟨S16x8192x1024, .f32⟩
  | .hbm, ⟨17, _⟩ => ⟨S16x8192x1024, .f32⟩
  | .hbm, ⟨18, _⟩ => ⟨S16x8192x1024, .f32⟩
  | .hbm, ⟨19, _⟩ => ⟨S16x8192x1024, .f32⟩
  | .hbm, ⟨20, _⟩ => ⟨S16x8192x1024, .f32⟩
  | .hbm, ⟨21, _⟩ => ⟨S16x8192x1024, .f32⟩
  | .hbm, ⟨22, _⟩ => ⟨S16x8192x1024, .f32⟩
  | .hbm, ⟨23, _⟩ => ⟨S16x8192x1024, .f32⟩
  | _, _ => ⟨S16x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== MergeKernel.lean ====
abbrev S65536x1024 : Shape := ⟨2, ![65536, 1024]⟩
abbrev S65536x256 : Shape := ⟨2, ![65536, 256]⟩
abbrev S1x1024 : Shape := ⟨2, ![1, 1024]⟩
abbrev S1024x4096 : Shape := ⟨2, ![1024, 4096]⟩
abbrev S4x256x1024 : Shape := ⟨3, ![4, 256, 1024]⟩
abbrev S1024x1024 : Shape := ⟨2, ![1024, 1024]⟩
abbrev S1x256 : Shape := ⟨2, ![1, 256]⟩
abbrev S1024x16 : Shape := ⟨2, ![1024, 16]⟩
abbrev S_ : Shape := ⟨0, ![]⟩
abbrev S1024x128 : Shape := ⟨2, ![1024, 128]⟩
abbrev S16x65536 : Shape := ⟨2, ![16, 65536]⟩
abbrev S256x1024 : Shape := ⟨2, ![256, 1024]⟩
abbrev S256x256 : Shape := ⟨2, ![256, 256]⟩
abbrev S16x256 : Shape := ⟨2, ![16, 256]⟩
abbrev S256 : Shape := ⟨1, ![256]⟩
abbrev S256x1 : Shape := ⟨2, ![256, 1]⟩
abbrev S1x256x1024 : Shape := ⟨3, ![1, 256, 1024]⟩
abbrev S256x128 : Shape := ⟨2, ![256, 128]⟩
abbrev S128x256 : Shape := ⟨2, ![128, 256]⟩

abbrev nBuf : Space → Nat
  | .hbm => 23
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .f32⟩
  | .hbm, ⟨5, _⟩ => ⟨S65536x1024, .bf16⟩
  | .hbm, ⟨6, _⟩ => ⟨S1x1024, .f32⟩
  | .hbm, ⟨7, _⟩ => ⟨S1024x4096, .bf16⟩
  | .hbm, ⟨8, _⟩ => ⟨S4x256x1024, .bf16⟩
  | .hbm, ⟨9, _⟩ => ⟨S1024x1024, .bf16⟩
  | .hbm, ⟨10, _⟩ => ⟨S1x256, .f32⟩
  | .hbm, ⟨11, _⟩ => ⟨S1x1024, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S65536x1024, .f32⟩
  | .hbm, ⟨21, _⟩ => ⟨S65536x1024, .bf16⟩
  | .hbm, ⟨22, _⟩ => ⟨S16x65536, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S1x1024, .f32⟩
  | .local _ .vmem, ⟨13, _⟩ => ⟨S1024x4096, .bf16⟩
  | .local _ .vmem, ⟨14, _⟩ => ⟨S4x256x1024, .bf16⟩
  | .local _ .vmem, ⟨15, _⟩ => ⟨S1024x1024, .bf16⟩
  | .local _ .vmem, ⟨16, _⟩ => ⟨S1x256, .f32⟩
  | .local _ .vmem, ⟨17, _⟩ => ⟨S1x1024, .f32⟩
  | .local _ .vmem, ⟨18, _⟩ => ⟨S1024x128, .bf16⟩
  | .local _ .vmem, ⟨19, _⟩ => ⟨S1024x128, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S16x256, .f32⟩
  | .local _ .vmem, ⟨25, _⟩ => ⟨S16x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S65536x1024 : Shape := ⟨2, ![65536, 1024]⟩
abbrev S65536x256 : Shape := ⟨2, ![65536, 256]⟩
abbrev S1x1024 : Shape := ⟨2, ![1, 1024]⟩
abbrev S1024x4096 : Shape := ⟨2, ![1024, 4096]⟩
abbrev S4x256x1024 : Shape := ⟨3, ![4, 256, 1024]⟩
abbrev S1024x1024 : Shape := ⟨2, ![1024, 1024]⟩
abbrev S1x256 : Shape := ⟨2, ![1, 256]⟩
abbrev S1024x16 : Shape := ⟨2, ![1024, 16]⟩
abbrev S_ : Shape := ⟨0, ![]⟩
abbrev S65536 : Shape := ⟨1, ![65536]⟩
abbrev S65536x1 : Shape := ⟨2, ![65536, 1]⟩
abbrev S65536x4x64 : Shape := ⟨3, ![65536, 4, 64]⟩
abbrev S4x64 : Shape := ⟨2, ![4, 64]⟩
abbrev S65536x4 : Shape := ⟨2, ![65536, 4]⟩
abbrev S65536x4x1 : Shape := ⟨3, ![65536, 4, 1]⟩
abbrev S1x4x64 : Shape := ⟨3, ![1, 4, 64]⟩
abbrev S65536x4096 : Shape := ⟨2, ![65536, 4096]⟩
abbrev S65536x4x1024 : Shape := ⟨3, ![65536, 4, 1024]⟩
abbrev S65536x1x1024 : Shape := ⟨3, ![65536, 1, 1024]⟩
abbrev S1x256x1024 : Shape := ⟨3, ![1, 256, 1024]⟩
abbrev S256x1024 : Shape := ⟨2, ![256, 1024]⟩
abbrev S65536x16 : Shape := ⟨2, ![65536, 16]⟩
abbrev S16x65536 : Shape := ⟨2, ![16, 65536]⟩

abbrev nBuf : Space → Nat
  | .hbm => 142
  | .vmem => 0
  | .smem => 0
  | _ => 0

abbrev hbmTy0_0 (i : Nat) : BufTy := match i % 128 with
  | 0 => ⟨S65536x1024, .f32⟩
  | 1 => ⟨S65536x256, .bf16⟩
  | 2 => ⟨S65536x256, .bf16⟩
  | 3 => ⟨S65536x256, .bf16⟩
  | 4 => ⟨S65536x256, .f32⟩
  | 5 => ⟨S65536x1024, .bf16⟩
  | 6 => ⟨S1x1024, .f32⟩
  | 7 => ⟨S1024x4096, .bf16⟩
  | 8 => ⟨S4x256x1024, .bf16⟩
  | 9 => ⟨S1024x1024, .bf16⟩
  | 10 => ⟨S1x256, .f32⟩
  | 11 => ⟨S1x1024, .f32⟩
  | 12 => ⟨S1024x16, .f32⟩
  | 13 => ⟨S65536x1024, .f32⟩
  | 14 => ⟨S_, .f32⟩
  | 15 => ⟨S65536, .f32⟩
  | 16 => ⟨S65536x1, .f32⟩
  | 17 => ⟨S_, .f32⟩
  | 18 => ⟨S65536x1, .f32⟩
  | 19 => ⟨S65536x1, .f32⟩
  | 20 => ⟨S_, .f32⟩
  | 21 => ⟨S65536x1, .f32⟩
  | 22 => ⟨S65536x1, .f32⟩
  | 23 => ⟨S65536x1, .f32⟩
  | 24 => ⟨S65536x1024, .f32⟩
  | 25 => ⟨S65536x1024, .f32⟩
  | 26 => ⟨S65536x1024, .f32⟩
  | 27 => ⟨S65536x1024, .f32⟩
  | 28 => ⟨S65536x4x64, .f32⟩
  | 29 => ⟨S4x64, .f32⟩
  | 30 => ⟨S65536x4x64, .f32⟩
  | 31 => ⟨S_, .f32⟩
  | 32 => ⟨S65536x4, .f32⟩
  | 33 => ⟨S65536x4x1, .f32⟩
  | 34 => ⟨S_, .f32⟩
  | 35 => ⟨S65536x4x1, .f32⟩
  | 36 => ⟨S65536x4x1, .f32⟩
  | 37 => ⟨S_, .f32⟩
  | 38 => ⟨S65536x4x1, .f32⟩
  | 39 => ⟨S65536x4x1, .f32⟩
  | 40 => ⟨S65536x4x1, .f32⟩
  | 41 => ⟨S65536x4x64, .f32⟩
  | 42 => ⟨S65536x4x64, .f32⟩
  | 43 => ⟨S1x4x64, .f32⟩
  | 44 => ⟨S65536x4x64, .f32⟩
  | 45 => ⟨S65536x4x64, .f32⟩
  | 46 => ⟨S65536x256, .f32⟩
  | 47 => ⟨S65536x256, .bf16⟩
  | 48 => ⟨S65536x256, .f32⟩
  | 49 => ⟨S65536x256, .f32⟩
  | 50 => ⟨S65536x256, .f32⟩
  | 51 => ⟨S_, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S65536x256, .f32⟩
  | 58 => ⟨S65536x256, .f32⟩
  | 59 => ⟨S1024x4096, .f32⟩
  | 60 => ⟨S65536x4096, .f32⟩
  | 61 => ⟨S65536x4x1024, .f32⟩
  | 62 => ⟨S65536x4x1024, .f32⟩
  | 63 => ⟨S65536x4x1024, .f32⟩
  | 64 => ⟨S_, .f32⟩
  | 65 => ⟨S65536x4x1024, .f32⟩
  | 66 => ⟨S65536x4x1024, .f32⟩
  | 67 => ⟨S_, .f32⟩
  | 68 => ⟨S65536x4x1024, .f32⟩
  | 69 => ⟨S65536x4x1024, .f32⟩
  | 70 => ⟨S65536x1x1024, .f32⟩
  | 71 => ⟨S65536x1024, .f32⟩
  | 72 => ⟨S65536x256, .f32⟩
  | 73 => ⟨S1x256x1024, .bf16⟩
  | 74 => ⟨S256x1024, .bf16⟩
  | 75 => ⟨S256x1024, .f32⟩
  | 76 => ⟨S65536x1024, .f32⟩
  | 77 => ⟨S65536x1024, .f32⟩
  | 78 => ⟨S_, .f32⟩
  | 79 => ⟨S65536x1024, .f32⟩
  | 80 => ⟨S65536x1024, .f32⟩
  | 81 => ⟨S65536x1x1024, .f32⟩
  | 82 => ⟨S65536x1024, .f32⟩
  | 83 => ⟨S65536x256, .f32⟩
  | 84 => ⟨S1x256x1024, .bf16⟩
  | 85 => ⟨S256x1024, .bf16⟩
  | 86 => ⟨S256x1024, .f32⟩
  | 87 => ⟨S65536x1024, .f32⟩
  | 88 => ⟨S65536x1024, .f32⟩
  | 89 => ⟨S65536x1024, .f32⟩
  | 90 => ⟨S65536x1x1024, .f32⟩
  | 91 => ⟨S65536x1024, .f32⟩
  | 92 => ⟨S65536x256, .f32⟩
  | 93 => ⟨S1x256x1024, .bf16⟩
  | 94 => ⟨S256x1024, .bf16⟩
  | 95 => ⟨S256x1024, .f32⟩
  | 96 => ⟨S65536x1024, .f32⟩
  | 97 => ⟨S65536x1024, .f32⟩
  | 98 => ⟨S65536x1024, .f32⟩
  | 99 => ⟨S65536x1x1024, .f32⟩
  | 100 => ⟨S65536x1024, .f32⟩
  | 101 => ⟨S1x256x1024, .bf16⟩
  | 102 => ⟨S256x1024, .bf16⟩
  | 103 => ⟨S256x1024, .f32⟩
  | 104 => ⟨S65536x1024, .f32⟩
  | 105 => ⟨S65536x1024, .f32⟩
  | 106 => ⟨S65536x1024, .f32⟩
  | 107 => ⟨S1024x1024, .f32⟩
  | 108 => ⟨S65536x1024, .f32⟩
  | 109 => ⟨S65536x1024, .f32⟩
  | 110 => ⟨S65536x1024, .f32⟩
  | 111 => ⟨S_, .f32⟩
  | 112 => ⟨S65536, .f32⟩
  | 113 => ⟨S65536x1, .f32⟩
  | 114 => ⟨S_, .f32⟩
  | 115 => ⟨S65536x1, .f32⟩
  | 116 => ⟨S65536x1, .f32⟩
  | 117 => ⟨S_, .f32⟩
  | 118 => ⟨S65536x1, .f32⟩
  | 119 => ⟨S65536x1, .f32⟩
  | 120 => ⟨S65536x1, .f32⟩
  | 121 => ⟨S65536x1024, .f32⟩
  | 122 => ⟨S65536x1024, .f32⟩
  | 123 => ⟨S65536x1024, .f32⟩
  | 124 => ⟨S65536x1024, .f32⟩
  | 125 => ⟨S65536x16, .f32⟩
  | 126 => ⟨S_, .f32⟩
  | 127 => ⟨S65536, .f32⟩
  | _ => ⟨S65536x1024, .f32⟩

abbrev hbmTy0_1 (i : Nat) : BufTy := match i % 128 with
  | 0 => ⟨S_, .f32⟩
  | 1 => ⟨S65536, .f32⟩
  | 2 => ⟨S65536, .f32⟩
  | 3 => ⟨S65536x1, .f32⟩
  | 4 => ⟨S65536x16, .f32⟩
  | 5 => ⟨S65536x16, .f32⟩
  | 6 => ⟨S65536x16, .f32⟩
  | 7 => ⟨S_, .f32⟩
  | 8 => ⟨S65536, .f32⟩
  | 9 => ⟨S65536x1, .f32⟩
  | 10 => ⟨S65536x16, .f32⟩
  | 11 => ⟨S65536x16, .f32⟩
  | 12 => ⟨S65536x1024, .bf16⟩
  | 13 => ⟨S16x65536, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_8 : Ref sig .tc := ⟨.hbm, 111, rfl⟩
abbrev main_v81 : Ref sig .tc := ⟨.hbm, 112, rfl⟩
abbrev main_v82 : Ref sig .tc := ⟨.hbm, 113, rfl⟩
abbrev main_cst_9 : Ref sig .tc := ⟨.hbm, 114, rfl⟩
abbrev main_v83 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_11 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_13 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== ProjKernel.lean ====
abbrev S65536x1024 : Shape := ⟨2, ![65536, 1024]⟩
abbrev S1x1024 : Shape := ⟨2, ![1, 1024]⟩
abbrev S1024x512 : Shape := ⟨2, ![1024, 512]⟩
abbrev S1024x1024 : Shape := ⟨2, ![1024, 1024]⟩
abbrev S1024x128 : Shape := ⟨2, ![1024, 128]⟩
abbrev S1x256 : Shape := ⟨2, ![1, 256]⟩
abbrev S1x128 : Shape := ⟨2, ![1, 128]⟩
abbrev S4096x128 : Shape := ⟨2, ![4096, 128]⟩
abbrev S65536x256 : Shape := ⟨2, ![65536, 256]⟩
abbrev S65536x128 : Shape := ⟨2, ![65536, 128]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S256x256 : Shape := ⟨2, ![256, 256]⟩
abbrev S128x128 : Shape := ⟨2, ![128, 128]⟩
abbrev S512x768 : Shape := ⟨2, ![512, 768]⟩

abbrev nBuf : Space → Nat
  | .hbm => 22
  | .vmem => 36
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x512, .bf16⟩
  | .hbm, ⟨3, _⟩ => ⟨S1024x512, .bf16⟩
  | .hbm, ⟨4, _⟩ => ⟨S1024x512, .bf16⟩
  | .hbm, ⟨5, _⟩ => ⟨S1024x1024, .bf16⟩
  | .hbm, ⟨6, _⟩ => ⟨S1024x128, .bf16⟩
  | .hbm, ⟨7, _⟩ => ⟨S1x256, .f32⟩
  | .hbm, ⟨8, _⟩ => ⟨S1x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S65536x256, .bf16⟩
  | .hbm, ⟨14, _⟩ => ⟨S65536x128, .bf16⟩
  | .hbm, ⟨15, _⟩ => ⟨S65536x128, .bf16⟩
  | .hbm, ⟨16, _⟩ => ⟨S65536x256, .bf16⟩
  | .hbm, ⟨17, _⟩ => ⟨S65536x256, .bf16⟩
  | .hbm, ⟨18, _⟩ => ⟨S65536x128, .bf16⟩
  | .hbm, ⟨19, _⟩ => ⟨S65536x128, .bf16⟩
  | .hbm, ⟨20, _⟩ => ⟨S65536x1024, .bf16⟩
  | .hbm, ⟨21, _⟩ => ⟨S65536x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x128, .bf16⟩
  | .local _ .vmem, ⟨8, _⟩ => ⟨S1x256, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x1024, .bf16⟩
  | .local _ .vmem, ⟨33, _⟩ => ⟨S512x1024, .bf16⟩
  | .local _ .vmem, ⟨34, _⟩ => ⟨S512x128, .bf16⟩
  | .local _ .vmem, ⟨35, _⟩ => ⟨S512x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjReferenceIdeal.lean ====
abbrev S65536x1024 : Shape := ⟨2, ![65536, 1024]⟩
abbrev S1x1024 : Shape := ⟨2, ![1, 1024]⟩
abbrev S1024x512 : Shape := ⟨2, ![1024, 512]⟩
abbrev S1024x1024 : Shape := ⟨2, ![1024, 1024]⟩
abbrev S1024x128 : Shape := ⟨2, ![1024, 128]⟩
abbrev S1x256 : Shape := ⟨2, ![1, 256]⟩
abbrev S1x128 : Shape := ⟨2, ![1, 128]⟩
abbrev S4096x128 : Shape := ⟨2, ![4096, 128]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S65536x256 : Shape := ⟨2, ![65536, 256]⟩
abbrev S65536x128 : Shape := ⟨2, ![65536, 128]⟩
abbrev S16x4096x2x2x64 : Shape := ⟨5, ![16, 4096, 2, 2, 64]⟩
abbrev S2x2x64 : Shape := ⟨3, ![2, 2, 64]⟩
abbrev S16x4096x2x2 : Shape := ⟨4, ![16, 4096, 2, 2]⟩
abbrev S16x4096x2x2x1 : Shape := ⟨5, ![16, 4096, 2, 2, 1]⟩
abbrev S1x1x2x2x64 : Shape := ⟨5, ![1, 1, 2, 2, 64]⟩
abbrev S16x4096x2x4x2x16 : Shape := ⟨6, ![16, 4096, 2, 4, 2, 16]⟩
abbrev S1x4096x1x4x2x16 : Shape := ⟨6, ![1, 4096, 1, 4, 2, 16]⟩
abbrev S16x4096x2x4x1x16 : Shape := ⟨6, ![16, 4096, 2, 4, 1, 16]⟩
abbrev S16x4096x1x2x64 : Shape := ⟨5, ![16, 4096, 1, 2, 64]⟩
abbrev S1x2x64 : Shape := ⟨3, ![1, 2, 64]⟩
abbrev S16x4096x1x2 : Shape := ⟨4, ![16, 4096, 1, 2]⟩
abbrev S16x4096x1x2x1 : Shape := ⟨5, ![16, 4096, 1, 2, 1]⟩
abbrev S1x1x1x2x64 : Shape := ⟨5, ![1, 1, 1, 2, 64]⟩
abbrev S16x4096x1x4x2x16 : Shape := ⟨6, ![16, 4096, 1, 4, 2, 16]⟩
abbrev S16x4096x1x4x1x16 : Shape := ⟨6, ![16, 4096, 1, 4, 1, 16]⟩
abbrev S16x4096x2x2x2x32 : Shape := ⟨6, ![16, 4096, 2, 2, 2, 32]⟩
abbrev S1x4096x1x2x2x32 : Shape := ⟨6, ![1, 4096, 1, 2, 2, 32]⟩
abbrev S16x4096x2x2x1x32 : Shape := ⟨6, ![16, 4096, 2, 2, 1, 32]⟩
abbrev S16x4096x1x2x2x32 : Shape := ⟨6, ![16, 4096, 1, 2, 2, 32]⟩
abbrev S16x4096x1x2x1x32 : Shape := ⟨6, ![16, 4096, 1, 2, 1, 32]⟩
abbrev S65536x768 : Shape := ⟨2, ![65536, 768]⟩

abbrev nBuf : Space → Nat
  | .hbm => 162
  | .vmem => 0
  | .smem => 0
  | _ => 0

abbrev hbmTy0_0 (i : Nat) : BufTy := match i % 128 with
  | 0 => ⟨S65536x1024, .f32⟩
  | 1 => ⟨S1x1024, .f32⟩
  | 2 => ⟨S1024x512, .bf16⟩
  | 3 => ⟨S1024x512, .bf16⟩
  | 4 => ⟨S1024x512, .bf16⟩
  | 5 => ⟨S1024x1024, .bf16⟩
  | 6 => ⟨S1024x128, .bf16⟩
  | 7 => ⟨S1x256, .f32⟩
  | 8 => ⟨S1x128, .f32⟩
  | 9 => ⟨S4096x128, .f32⟩
  | 10 => ⟨S4096x128, .f32⟩
  | 11 => ⟨S4096x128, .f32⟩
  | 12 => ⟨S4096x128, .f32⟩
  | 13 => ⟨S65536x1024, .f32⟩
  | 14 => ⟨S_, .f32⟩
  | 15 => ⟨S65536, .f32⟩
  | 16 => ⟨S65536x1, .f32⟩
  | 17 => ⟨S_, .f32⟩
  | 18 => ⟨S65536x1, .f32⟩
  | 19 => ⟨S65536x1, .f32⟩
  | 20 => ⟨S_, .f32⟩
  | 21 => ⟨S65536x1, .f32⟩
  | 22 => ⟨S65536x1, .f32⟩
  | 23 => ⟨S65536x1, .f32⟩
  | 24 => ⟨S65536x1024, .f32⟩
  | 25 => ⟨S65536x1024, .f32⟩
  | 26 => ⟨S65536x1024, .f32⟩
  | 27 => ⟨S65536x1024, .f32⟩
  | 28 => ⟨S1024x512, .f32⟩
  | 29 => ⟨S65536x512, .f32⟩
  | 30 => ⟨S65536x256, .f32⟩
  | 31 => ⟨S65536x128, .f32⟩
  | 32 => ⟨S65536x128, .f32⟩
  | 33 => ⟨S16x4096x2x2x64, .f32⟩
  | 34 => ⟨S2x2x64, .f32⟩
  | 35 => ⟨S16x4096x2x2x64, .f32⟩
  | 36 => ⟨S_, .f32⟩
  | 37 => ⟨S16x4096x2x2, .f32⟩
  | 38 => ⟨S16x4096x2x2x1, .f32⟩
  | 39 => ⟨S_, .f32⟩
  | 40 => ⟨S16x4096x2x2x1, .f32⟩
  | 41 => ⟨S16x4096x2x2x1, .f32⟩
  | 42 => ⟨S_, .f32⟩
  | 43 => ⟨S16x4096x2x2x1, .f32⟩
  | 44 => ⟨S16x4096x2x2x1, .f32⟩
  | 45 => ⟨S16x4096x2x2x1, .f32⟩
  | 46 => ⟨S16x4096x2x2x64, .f32⟩
  | 47 => ⟨S16x4096x2x2x64, .f32⟩
  | 48 => ⟨S1x1x2x2x64, .f32⟩
  | 49 => ⟨S16x4096x2x2x64, .f32⟩
  | 50 => ⟨S16x4096x2x2x64, .f32⟩
  | 51 => ⟨S16x4096x2x4x2x16, .f32⟩
  | 52 => ⟨S1x4096x1x4x2x16, .f32⟩
  | 53 => ⟨S1x4096x1x4x2x16, .f32⟩
  | 54 => ⟨S16x4096x2x4x2x16, .f32⟩
  | 55 => ⟨S16x4096x2x4x2x16, .f32⟩
  | 56 => ⟨S16x4096x2x4x1x16, .f32⟩
  | 57 => ⟨S16x4096x2x4x1x16, .f32⟩
  | 58 => ⟨S16x4096x2x4x2x16, .f32⟩
  | 59 => ⟨S16x4096x2x4x2x16, .f32⟩
  | 60 => ⟨S16x4096x2x4x2x16, .f32⟩
  | 61 => ⟨S16x4096x2x4x2x16, .f32⟩
  | 62 => ⟨S65536x256, .f32⟩
  | 63 => ⟨S16x4096x1x2x64, .f32⟩
  | 64 => ⟨S1x2x64, .f32⟩
  | 65 => ⟨S16x4096x1x2x64, .f32⟩
  | 66 => ⟨S_, .f32⟩
  | 67 => ⟨S16x4096x1x2, .f32⟩
  | 68 => ⟨S16x4096x1x2x1, .f32⟩
  | 69 => ⟨S_, .f32⟩
  | 70 => ⟨S16x4096x1x2x1, .f32⟩
  | 71 => ⟨S16x4096x1x2x1, .f32⟩
  | 72 => ⟨S_, .f32⟩
  | 73 => ⟨S16x4096x1x2x1, .f32⟩
  | 74 => ⟨S16x4096x1x2x1, .f32⟩
  | 75 => ⟨S16x4096x1x2x1, .f32⟩
  | 76 => ⟨S16x4096x1x2x64, .f32⟩
  | 77 => ⟨S16x4096x1x2x64, .f32⟩
  | 78 => ⟨S1x1x1x2x64, .f32⟩
  | 79 => ⟨S16x4096x1x2x64, .f32⟩
  | 80 => ⟨S16x4096x1x2x64, .f32⟩
  | 81 => ⟨S16x4096x1x4x2x16, .f32⟩
  | 82 => ⟨S1x4096x1x4x2x16, .f32⟩
  | 83 => ⟨S1x4096x1x4x2x16, .f32⟩
  | 84 => ⟨S16x4096x1x4x2x16, .f32⟩
  | 85 => ⟨S16x4096x1x4x2x16, .f32⟩
  | 86 => ⟨S16x4096x1x4x1x16, .f32⟩
  | 87 => ⟨S16x4096x1x4x1x16, .f32⟩
  | 88 => ⟨S16x4096x1x4x2x16, .f32⟩
  | 89 => ⟨S16x4096x1x4x2x16, .f32⟩
  | 90 => ⟨S16x4096x1x4x2x16, .f32⟩
  | 91 => ⟨S16x4096x1x4x2x16, .f32⟩
  | 92 => ⟨S65536x128, .f32⟩
  | 93 => ⟨S1024x512, .f32⟩
  | 94 => ⟨S65536x512, .f32⟩
  | 95 => ⟨S65536x256, .f32⟩
  | 96 => ⟨S65536x256, .f32⟩
  | 97 => ⟨S1024x512, .f32⟩
  | 98 => ⟨S65536x512, .f32⟩
  | 99 => ⟨S65536x256, .f32⟩
  | 100 => ⟨S65536x128, .f32⟩
  | 101 => ⟨S65536x128, .f32⟩
  | 102 => ⟨S16x4096x2x2x64, .f32⟩
  | 103 => ⟨S16x4096x2x2x2x32, .f32⟩
  | 104 => ⟨S1x4096x1x2x2x32, .f32⟩
  | 105 => ⟨S1x4096x1x2x2x32, .f32⟩
  | 106 => ⟨S16x4096x2x2x2x32, .f32⟩
  | 107 => ⟨S16x4096x2x2x2x32, .f32⟩
  | 108 => ⟨S16x4096x2x2x1x32, .f32⟩
  | 109 => ⟨S16x4096x2x2x1x32, .f32⟩
  | 110 => ⟨S16x4096x2x2x2x32, .f32⟩
  | 111 => ⟨S16x4096x2x2x2x32, .f32⟩
  | 112 => ⟨S16x4096x2x2x2x32, .f32⟩
  | 113 => ⟨S16x4096x2x2x2x32, .f32⟩
  | 114 => ⟨S65536x256, .f32⟩
  | 115 => ⟨S16x4096x1x2x64, .f32⟩
  | 116 => ⟨S16x4096x1x2x2x32, .f32⟩
  | 117 => ⟨S1x4096x1x2x2x32, .f32⟩
  | 118 => ⟨S1x4096x1x2x2x32, .f32⟩
  | 119 => ⟨S16x4096x1x2x2x32, .f32⟩
  | 120 => ⟨S16x4096x1x2x2x32, .f32⟩
  | 121 => ⟨S16x4096x1x2x1x32, .f32⟩
  | 122 => ⟨S16x4096x1x2x1x32, .f32⟩
  | 123 => ⟨S16x4096x1x2x2x32, .f32⟩
  | 124 => ⟨S16x4096x1x2x2x32, .f32⟩
  | 125 => ⟨S16x4096x1x2x2x32, .f32⟩
  | 126 => ⟨S16x4096x1x2x2x32, .f32⟩
  | 127 => ⟨S65536x128, .f32⟩
  | _ => ⟨S65536x1024, .f32⟩

abbrev hbmTy0_1 (i : Nat) : BufTy := match i % 128 with
  | 0 => ⟨S1024x1024, .f32⟩
  | 1 => ⟨S65536x1024, .f32⟩
  | 2 => ⟨S65536x256, .f32⟩
  | 3 => ⟨S65536x768, .f32⟩
  | 4 => ⟨S1024x128, .f32⟩
  | 5 => ⟨S65536x128, .f32⟩
  | 6 => ⟨S_, .f32⟩
  | 7 => ⟨S65536x256, .f32⟩
  | 8 => ⟨S65536x256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S_, .f32⟩
  | 22 => ⟨S65536x256, .f32⟩
  | 23 => ⟨S65536x256, .f32⟩
  | 24 => ⟨S65536x1024, .f32⟩
  | 25 => ⟨S65536x256, .bf16⟩
  | 26 => ⟨S65536x128, .bf16⟩
  | 27 => ⟨S65536x128, .bf16⟩
  | 28 => ⟨S65536x256, .bf16⟩
  | 29 => ⟨S65536x256, .bf16⟩
  | 30 => ⟨S65536x128, .bf16⟩
  | 31 => ⟨S65536x128, .bf16⟩
  | 32 => ⟨S65536x1024, .bf16⟩
  | 33 => ⟨S65536x128, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_8 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_9 : Ref sig .tc := ⟨.hbm, 139, rfl⟩
abbrev main_v116 : Ref sig .tc := ⟨.hbm, 140, rfl⟩
abbrev main_v117 : Ref sig .tc := ⟨.hbm, 141, rfl⟩
abbrev main_cst_10 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_11 : Ref sig .tc := ⟨.hbm, 146, rfl⟩
abbrev main_v121 : Ref sig .tc := ⟨.hbm, 147, rfl⟩
abbrev main_v122 : Ref sig .tc := ⟨.hbm, 148, rfl⟩
abbrev main_cst_12 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩

abbrev nD : Nat := 1
abbrev τ : Topo := Topo.v7x

variable {F : FTy → Type} [FloatOps F]
-- ==== PleKernel.lean ====
abbrev S65536x1024 : Shape := ⟨2, ![65536, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S65536x1024 : Shape := ⟨2, ![65536, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1024x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S256x1024, .f32⟩
  | .hbm, ⟨32, _⟩ => ⟨S65536x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== PleLastKernel.lean ====
abbrev S65536x1024 : Shape := ⟨2, ![65536, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleLastReferenceIdeal.lean ====
abbrev S65536x1024 : Shape := ⟨2, ![65536, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1024x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S256x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.SoftmaxMath.lean ====
/-
  THE SOFTMAX KEPT BLOCK BY BLOCK EQUALS THE SOFTMAX OVER ALL KEYS.

  A query row scores the keys `0, 1, …` with real scores `s`; the values `v` are arbitrary. The running state over the
  first `n` keys is the greatest score, the sum of the exponentials shifted by it, and the same sum weighted by `v`.
  Taking in one more block rescales the two sums by `exp (old - new)`. At the end the quotient of the two sums is the sum of
  the normalized weights times the values.
-/
module

public import Idealize.ShloMosaic.PureOps.Ideal
public import Mathlib.Data.EReal.Operations
public import Mathlib.Data.EReal.Inv
public import Mathlib.Analysis.SpecialFunctions.Exp

@[expose] public section

noncomputable section

open Idealize.ShloMosaic

namespace Cert.Softmax

/-- A finite sum of reals, read as extended reals. -/
theorem coe_sum {ι : Type*} (A : Finset ι) (f : ι → ℝ) : ((∑ i ∈ A, f i : ℝ) : EReal) = ∑ i ∈ A, ((f i : ℝ) : EReal) := by
  classical
  induction A using Finset.induction_on with
  | empty => simp
  | insert a A ha ih => rw [Finset.sum_insert ha, Finset.sum_insert ha, EReal.coe_add, ih]

/-- A nonnegative real factor goes into a sum. -/
theorem coe_mul_sum {ι : Type*} (A : Finset ι) (r : ℝ) (hr : 0 ≤ r) (f : ι → EReal) :
    (r : EReal) * ∑ i ∈ A, f i = ∑ i ∈ A, (r : EReal) * f i := by
  classical
  induction A using Finset.induction_on with
  | empty => simp
  | insert a A ha ih =>
    rw [Finset.sum_insert ha, Finset.sum_insert ha,
      EReal.left_distrib_of_nonneg_of_ne_top (by exact_mod_cast hr) (EReal.coe_ne_top r), ih]

/-- `b` is the greatest of the scores `s i` over `A`. -/
def IsTop {ι : Type*} (A : Finset ι) (s : ι → ℝ) (b : ℝ) : Prop := (∀ i ∈ A, s i ≤ b) ∧ ∃ i ∈ A, s i = b

theorem IsTop.unique {ι : Type*} {A : Finset ι} {s : ι → ℝ} {b b' : ℝ} (h : IsTop A s b) (h' : IsTop A s b') : b = b' := by
  obtain ⟨i, hi, rfl⟩ := h.2
  obtain ⟨j, hj, rfl⟩ := h'.2
  exact le_antisymm (h'.1 i hi) (h.1 j hj)

/-- The fold of `max` from `⊥` over a nonempty finite set of real scores is the greatest of them. -/
theorem fold_max {ι : Type*} (A : Finset ι) (hA : A.Nonempty) (s : ι → ℝ) :
    ∃ b : ℝ, A.fold max (⊥ : EReal) (fun i => (s i : EReal)) = (b : EReal) ∧ IsTop A s b := by
  classical
  induction A using Finset.induction_on with
  | empty => exact absurd rfl hA.ne_empty
  | insert a A ha ih =>
    rw [Finset.fold_insert ha]
    rcases A.eq_empty_or_nonempty with rfl | hne
    · refine ⟨s a, by simp, fun i hi => ?_, a, by simp, rfl⟩
      rcases Finset.mem_insert.mp hi with rfl | h
      · exact le_rfl
      · simp at h
    · obtain ⟨b, hb, hle, j, hj, hjb⟩ := ih hne
      refine ⟨max (s a) b, by rw [hb]; exact (EReal.coe_strictMono.monotone.map_max).symm, fun i hi => ?_, ?_⟩
      · rcases Finset.mem_insert.mp hi with rfl | h
        · exact le_max_left _ _
        · exact (hle i h).trans (le_max_right _ _)
      · rcases le_total (s a) b with h | h
        · exact ⟨j, Finset.mem_insert_of_mem hj, by rw [hjb, max_eq_right h]⟩
        · exact ⟨a, Finset.mem_insert_self _ _, by rw [max_eq_left h]⟩

variable (s : ℕ → ℝ) (v : ℕ → EReal)

/-- What the running state holds after the first `n` keys. -/
def Inv (n : ℕ) (m l a : EReal) : Prop :=
  (n = 0 ∧ m = ⊥ ∧ l = 0 ∧ a = 0) ∨
  ∃ M : ℝ, m = M ∧ IsTop (Finset.range n) s M ∧ l = ((∑ i ∈ Finset.range n, Real.exp (s i - M) : ℝ) : EReal)
    ∧ a = ∑ i ∈ Finset.range n, ((Real.exp (s i - M) : ℝ) : EReal) * v i

theorem Inv.zero : Inv s v 0 ⊥ 0 0 := Or.inl ⟨rfl, rfl, rfl, rfl⟩

/-- One more block of `W` keys. -/
theorem Inv.step {n W : ℕ} (hW : 0 < W) {m l a : EReal} (h : Inv s v n m l a) {m' l' a' : EReal}
    (hm : m' = max m ((Finset.univ : Finset (Fin W)).fold max (⊥ : EReal) fun j => ((s (n + j.val) : ℝ) : EReal)))
    (hl : l' = Ideal.exp (m - m') * l + ∑ j : Fin W, Ideal.exp (((s (n + j.val) : ℝ) : EReal) - m'))
    (ha : a' = Ideal.exp (m - m') * a + ∑ j : Fin W, Ideal.exp (((s (n + j.val) : ℝ) : EReal) - m') * v (n + j.val)) :
    Inv s v (n + W) m' l' a' := by
  haveI : Nonempty (Fin W) := ⟨⟨0, hW⟩⟩
  obtain ⟨b, hb, hble, j0, -, hj0⟩ := fold_max (Finset.univ : Finset (Fin W)) Finset.univ_nonempty fun j => s (n + j.val)
  rw [hb] at hm
  right
  rcases h with ⟨rfl, rfl, rfl, rfl⟩ | ⟨M, rfl, hM, rfl, rfl⟩
  · have hm' : m' = (b : EReal) := by rw [hm]; exact max_eq_right bot_le
    subst hm'
    refine ⟨b, rfl, ⟨fun i hi => ?_, ?_⟩, ?_, ?_⟩
    · have hi' : i < W := by simpa using hi
      simpa using hble ⟨i, hi'⟩ (Finset.mem_univ _)
    · exact ⟨0 + j0.val, by simp, hj0⟩
    · rw [hl, mul_zero, zero_add, coe_sum]
      rw [zero_add, Finset.sum_range fun i => ((Real.exp (s i - b) : ℝ) : EReal)]
      refine Finset.sum_congr rfl fun j _ => ?_
      rw [zero_add, ← EReal.coe_sub, Ideal.exp_coe]
    · rw [ha, mul_zero, zero_add, zero_add, Finset.sum_range fun i => ((Real.exp (s i - b) : ℝ) : EReal) * v i]
      refine Finset.sum_congr rfl fun j _ => ?_
      rw [zero_add, ← EReal.coe_sub, Ideal.exp_coe]
  · have hm' : m' = ((max M b : ℝ) : EReal) := by rw [hm]; exact (EReal.coe_strictMono.monotone.map_max).symm
    subst hm'
    have hexp : ∀ i, Real.exp (M - max M b) * Real.exp (s i - M) = Real.exp (s i - max M b) := fun i => by
      rw [← Real.exp_add]; congr 1; ring
    refine ⟨max M b, rfl, ⟨fun i hi => ?_, ?_⟩, ?_, ?_⟩
    · have hi' : i < n + W := by simpa using hi
      by_cases hin : i < n
      · exact (hM.1 i (by simpa using hin)).trans (le_max_left _ _)
      · have : s (n + (i - n)) ≤ b := hble ⟨i - n, by omega⟩ (Finset.mem_univ _)
        rw [show n + (i - n) = i by omega] at this
        exact this.trans (le_max_right _ _)
    · rcases le_total M b with h | h
      · exact ⟨n + j0.val, by have := j0.isLt; simp, by rw [max_eq_right h]; exact hj0⟩
      · obtain ⟨i, hi, hiM⟩ := hM.2
        exact ⟨i, by have : i < n := by simpa using hi
                     simp; omega, by rw [max_eq_left h]; exact hiM⟩
    · rw [hl, ← EReal.coe_sub, Ideal.exp_coe, ← EReal.coe_mul, Finset.sum_range_add, EReal.coe_add, Finset.mul_sum]
      congr 1
      · exact congrArg _ (Finset.sum_congr rfl fun i _ => hexp i)
      · rw [coe_sum, Finset.sum_range fun j => ((Real.exp (s (n + j) - max M b) : ℝ) : EReal)]
        refine Finset.sum_congr rfl fun j _ => ?_
        rw [← EReal.coe_sub, Ideal.exp_coe]
    · rw [ha, ← EReal.coe_sub, Ideal.exp_coe, Finset.sum_range_add, coe_mul_sum _ _ (Real.exp_pos _).le]
      congr 1
      · refine Finset.sum_congr rfl fun i _ => ?_
        rw [← mul_assoc, ← EReal.coe_mul, hexp]
      · rw [Finset.sum_range fun j => ((Real.exp (s (n + j) - max M b) : ℝ) : EReal) * v (n + j)]
        refine Finset.sum_congr rfl fun j _ => ?_
        rw [← EReal.coe_sub, Ideal.exp_coe]

/-- The quotient of the two running sums is the sum of normalized weights times values, over any index type in which
    the keys are numbered. -/
theorem Inv.final {n : ℕ} (hn : 0 < n) {m l a : EReal} (h : Inv s v n m l a) (t : Fin n → EReal) (w : Fin n → EReal)
    (ht : ∀ i, t i = ((s i.val : ℝ) : EReal)) (hw : ∀ i, w i = v i.val) {m' : EReal}
    (hm' : m' = (Finset.univ : Finset (Fin n)).fold max (⊥ : EReal) t) :
    Ideal.div a l = ∑ i, Ideal.div (Ideal.exp (t i - m')) (∑ j, Ideal.exp (t j - m')) * w i := by
  obtain rfl : t = fun i => ((s i.val : ℝ) : EReal) := funext ht
  obtain rfl : w = fun i => v i.val := funext hw
  haveI : Nonempty (Fin n) := ⟨⟨0, hn⟩⟩
  rcases h with ⟨rfl, -⟩ | ⟨M, rfl, hM, rfl, rfl⟩
  · exact absurd hn (lt_irrefl _)
  obtain ⟨b, hb, hble, j0, -, hj0⟩ := fold_max (Finset.univ : Finset (Fin n)) Finset.univ_nonempty fun j => s j.val
  obtain rfl : b = M := IsTop.unique (A := Finset.range n) (s := s)
    ⟨fun i hi => hble ⟨i, by simpa using hi⟩ (Finset.mem_univ _), j0.val, by simp, hj0⟩ hM
  rw [hb] at hm'
  subst hm'
  have hsum : (∑ j : Fin n, Ideal.exp (((s j.val : ℝ) : EReal) - (b : EReal)))
      = ((∑ i ∈ Finset.range n, Real.exp (s i - b) : ℝ) : EReal) := by
    rw [coe_sum, Finset.sum_range fun i => ((Real.exp (s i - b) : ℝ) : EReal)]
    exact Finset.sum_congr rfl fun j _ => by rw [← EReal.coe_sub, Ideal.exp_coe]
  have hpos : 0 < ∑ i ∈ Finset.range n, Real.exp (s i - b) :=
    Finset.sum_pos (fun i _ => Real.exp_pos _) ⟨0, by simpa using hn⟩
  rw [hsum, Ideal.div_coe hpos.ne', mul_comm, coe_mul_sum _ _ (by positivity),
    Finset.sum_range fun i => _ * (((Real.exp (s i - b) : ℝ) : EReal) * v i)]
  refine Finset.sum_congr rfl fun j _ => ?_
  rw [← EReal.coe_sub, Ideal.exp_coe, Ideal.div_coe hpos.ne', ← mul_assoc, mul_comm (((1 / _ : ℝ)) : EReal)]

end Cert.Softmax

end
-- ==== Proof.AttnLoop.lean ====
/-
  THE ATTENTION CALL: what its two key loops leave in the running buffers.

  A loop goes over the 4096 keys in 8 blocks of 512. Each trip reads a block of keys and values and rewrites the running
  maximum, the running sum and the weighted sum. After `n` trips the three buffers hold, row by row, the running state of
  the softmax over the first `512 * n` keys.
-/
module

public import proofs.«01_k».proof.Defs
public import proofs.«01_k».proof.Proof.Gen.AttnKernelIdeal.Value
public import proofs.«01_k».proof.Proof.SoftmaxMath
public import Idealize.ShloMosaic.Lib.Pointwise
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.AttnKernelIdeal.RefValue

open Cert.AttnKernelIdeal Cert.AttnKernelIdeal.Gen
open Idealize.ShloMosaic.Pipeline (Dat)
open Cert.Softmax (Inv)

/-! ## One trip's values, read at an index -/

/-- A block's score: the query row times the key row. -/
theorem pay2 (q : FVec Ideal S512x128 .bf16) (kb : Vec Ideal S1x512x128 .bf16) (r j : Fin 512) :
    k0_pay2 q kb (ix2 r j) = ∑ d : Fin 128, q (ix2 r d) * kb (ix3 0 j d) := by
  pointwise [k0_pay2]

/-- The new maximum. -/
theorem pay3 (q : FVec Ideal S512x128 .bf16) (kb : Vec Ideal S1x512x128 .bf16) (m : Vec Ideal S512x1 .f32) (r : Fin 512) :
    k0_pay3 q kb m (ix2 r 0) = max (m (ix2 r 0))
      ((Finset.univ : Finset (Fin 512)).fold max (⊥ : EReal) fun j => ∑ d : Fin 128, q (ix2 r d) * kb (ix3 0 j d)) := by
  pointwise [k0_pay3]
  simp only [pay2]
  rfl

/-- The stored maximum is the new maximum. -/
theorem pay18 (q : FVec Ideal S512x128 .bf16) (kb : Vec Ideal S1x512x128 .bf16) (m : Vec Ideal S512x1 .f32) (r : Fin 512) :
    k0_pay18 (k0_pay3 q kb m) (ix2 r 0) = k0_pay3 q kb m (ix2 r 0) := by
  pointwise [k0_pay18]

/-- The new sum. -/
theorem pay6 (q : FVec Ideal S512x128 .bf16) (kb : Vec Ideal S1x512x128 .bf16) (m l : Vec Ideal S512x1 .f32) (r : Fin 512) :
    k0_pay6 q kb m l (ix2 r 0) = Ideal.exp (m (ix2 r 0) - k0_pay3 q kb m (ix2 r 0)) * l (ix2 r 0)
      + ∑ j : Fin 512, Ideal.exp (k0_pay2 q kb (ix2 r j) - k0_pay3 q kb m (ix2 r 0)) := by
  pointwise [k0_pay6, k0_pay4, k0_pay5]

/-- The new weighted sum. -/
theorem pay7 (q : FVec Ideal S512x128 .bf16) (kb vb : Vec Ideal S1x512x128 .bf16) (m : Vec Ideal S512x1 .f32)
    (a : Vec Ideal S512x128 .f32) (r : Fin 512) (d : Fin 128) :
    k0_pay7 q kb m a vb (ix2 r d) = Ideal.exp (m (ix2 r 0) - k0_pay3 q kb m (ix2 r 0)) * a (ix2 r d)
      + ∑ j : Fin 512, Ideal.exp (k0_pay2 q kb (ix2 r j) - k0_pay3 q kb m (ix2 r 0)) * vb (ix3 0 j d) := by
  pointwise [k0_pay7, k0_pay4, k0_pay5]

/-- One trip takes the running state over `n` keys to the one over `n + 512`. -/
theorem step (q : FVec Ideal S512x128 .bf16) (kb vb : Vec Ideal S1x512x128 .bf16) (m l : Vec Ideal S512x1 .f32)
    (a : Vec Ideal S512x128 .f32) (r : Fin 512) (d : Fin 128) (s : ℕ → ℝ) (v : ℕ → EReal) (n : ℕ)
    (hs : ∀ j : Fin 512, ∑ e : Fin 128, q (ix2 r e) * kb (ix3 0 j e) = ((s (n + j.val) : ℝ) : EReal))
    (hv : ∀ j : Fin 512, vb (ix3 0 j d) = v (n + j.val))
    (h : Inv s v n (m (ix2 r 0)) (l (ix2 r 0)) (a (ix2 r d))) :
    Inv s v (n + 512) (k0_pay18 (k0_pay3 q kb m) (ix2 r 0)) (k0_pay6 q kb m l (ix2 r 0)) (k0_pay7 q kb m a vb (ix2 r d)) := by
  have hm := pay3 q kb m r
  simp only [hs] at hm
  rw [pay18, pay6, pay7]
  simp only [pay2, hs, hv]
  exact h.step s v (by decide) hm rfl rfl

/-- Block `k` of an array of 4096 rows, read at a row. -/
theorem block (X : Vec Ideal S1x4096x128 .bf16) (off : Fin 3 → ℕ) (n : ℕ) (hn : n < 8) (h : off = ![0, 512 * n, 0])
    (inb : ∀ a, off a + S1x512x128.size a ≤ S1x4096x128.size a) (j : Fin 512) (e : Fin 128) :
    View.ld X (Rect.unit (s := S1x4096x128) off S1x512x128.size inb) (ix3 0 j e)
      = X (ix3 0 ⟨512 * n + j.val, by have := j.isLt; omega⟩ e) := by
  subst h
  show X _ = X _
  congr 1
  funext a
  fin_cases a <;> apply Fin.ext
  · show 0 + 1 * 0 = 0; omega
  · show 512 * n + 1 * j.val = 512 * n + j.val; omega
  · show 0 + 1 * e.val = e.val; omega

section

variable (𝒱 : Variants) (c : Dev nD) (bd : Option 𝒱.V) (i : grid0.Coords) (arg2 : Memref sig .tc .vmem S1x256x256 .bf16) (harg2 : arg2.IsWhole)
  (arg3 : Memref sig .tc .vmem S1x4096x128 .bf16) (harg3 : arg3.IsWhole) (arg4 : Memref sig .tc .vmem S1x4096x128 .bf16) (harg4 : arg4.IsWhole)
  (arg5 : Memref sig .tc .vmem S1x256x256 .bf16) (harg5 : arg5.IsWhole) (arg6 : Memref sig .tc .vmem S512x1 .f32) (harg6 : arg6.IsWhole)
  (arg7 : Memref sig .tc .vmem S512x1 .f32) (harg7 : arg7.IsWhole) (arg8 : Memref sig .tc .vmem S512x128 .f32) (harg8 : arg8.IsWhole)

/-! ## Loop 1 -/

/-- What one trip stores: the new maximum, the new sum and the new weighted sum, each over its whole buffer. -/
theorem trip1 (X3 : BufTy.Contents (Elt Ideal) arg3.view.ty) (X4 : BufTy.Contents (Elt Ideal) arg4.view.ty)
    (k : Fin k0_t1_loop.trips) (f6 : BufTy.Contents (Elt Ideal) arg6.view.ty) (f7 : BufTy.Contents (Elt Ideal) arg7.view.ty)
    (f8 : BufTy.Contents (Elt Ideal) arg8.view.ty) (v0 : Vec Ideal S1x256x128 .bf16) :
    tripL_k0_t1 (F := Ideal) 𝒱 c bd i arg2 harg2 arg3 harg3 arg4 harg4 arg5 harg5 arg6 harg6 arg7 harg7 arg8 harg8 v0 X3 X4 k f6 f7 f8
      = ([⟨Rect.unit ![0, 0] S512x1.size inb_S512x1_S512x1_0_0, k0_pay18 (k0_pay3 (k0_pay14 v0)
            (View.ld (arg3.view.read (Elt Ideal) X3) (Rect.unit (k0_off1 k) S1x512x128.size (k0_off1_inb k)))
            (arg6.view.read (Elt Ideal) f6))⟩],
         [⟨Rect.unit ![0, 0] S512x1.size inb_S512x1_S512x1_0_0, k0_pay6 (k0_pay14 v0)
            (View.ld (arg3.view.read (Elt Ideal) X3) (Rect.unit (k0_off1 k) S1x512x128.size (k0_off1_inb k)))
            (arg6.view.read (Elt Ideal) f6) (arg7.view.read (Elt Ideal) f7)⟩],
         [⟨Rect.unit ![0, 0] S512x128.size inb_S512x128_S512x128_0_0, k0_pay7 (k0_pay14 v0)
            (View.ld (arg3.view.read (Elt Ideal) X3) (Rect.unit (k0_off1 k) S1x512x128.size (k0_off1_inb k)))
            (arg6.view.read (Elt Ideal) f6) (arg8.view.read (Elt Ideal) f8)
            (View.ld (arg4.view.read (Elt Ideal) X4) (Rect.unit (k0_off1 k) S1x512x128.size (k0_off1_inb k)))⟩]) := by
  unfold tripL_k0_t1 trip_k0_t1
  rw [← View.readAt_full arg6.view f6 inb_S512x1_S512x1_0_0, ← View.readAt_full arg7.view f7 inb_S512x1_S512x1_0_0,
    ← View.readAt_full arg8.view f8 inb_S512x128_S512x128_0_0]
  rfl

/-- After `n` trips, the running state at row `r` and lane `d`. -/
theorem loop1 (X3 : BufTy.Contents (Elt Ideal) arg3.view.ty) (X4 : BufTy.Contents (Elt Ideal) arg4.view.ty)
    (G6 : BufTy.Contents (Elt Ideal) arg6.view.ty) (G7 : BufTy.Contents (Elt Ideal) arg7.view.ty)
    (G8 : BufTy.Contents (Elt Ideal) arg8.view.ty) (v0 : Vec Ideal S1x256x128 .bf16) (r : Fin 512) (d : Fin 128) (s : ℕ → ℝ) (v : ℕ → EReal)
    (hs : ∀ κ : Fin 4096, ∑ e : Fin 128, k0_pay14 v0 (ix2 r e) * arg3.view.read (Elt Ideal) X3 (ix3 0 κ e) = ((s κ.val : ℝ) : EReal))
    (hv : ∀ κ : Fin 4096, arg4.view.read (Elt Ideal) X4 (ix3 0 κ d) = v κ.val)
    (h6 : arg6.view.read (Elt Ideal) G6 (ix2 r 0) = (⊥ : EReal)) (h7 : arg7.view.read (Elt Ideal) G7 (ix2 r 0) = (0 : EReal))
    (h8 : arg8.view.read (Elt Ideal) G8 (ix2 r d) = (0 : EReal)) (n : ℕ) (hn : n ≤ 8) :
    Inv s v (512 * n)
      (arg6.view.read (Elt Ideal) (arg6.view.writes (Elt Ideal) G6 (pb_k0_t1 (F := Ideal) 𝒱 c bd i arg2 harg2 arg3 harg3 arg4 harg4 arg5 harg5 arg6 harg6 arg7 harg7 arg8 harg8 v0 X3 X4 G6 G7 G8 n).1) (ix2 r 0))
      (arg7.view.read (Elt Ideal) (arg7.view.writes (Elt Ideal) G7 (pb_k0_t1 (F := Ideal) 𝒱 c bd i arg2 harg2 arg3 harg3 arg4 harg4 arg5 harg5 arg6 harg6 arg7 harg7 arg8 harg8 v0 X3 X4 G6 G7 G8 n).2.1) (ix2 r 0))
      (arg8.view.read (Elt Ideal) (arg8.view.writes (Elt Ideal) G8 (pb_k0_t1 (F := Ideal) 𝒱 c bd i arg2 harg2 arg3 harg3 arg4 harg4 arg5 harg5 arg6 harg6 arg7 harg7 arg8 harg8 v0 X3 X4 G6 G7 G8 n).2.2) (ix2 r d)) := by
  induction n with
  | zero =>
    rw [pb_k0_t1.eq_1]
    simp only [View.writes_nil]
    rw [h6, h7, h8]
    exact Inv.zero s v
  | succ n ih =>
    have ih := ih (Nat.le_of_succ_le hn)
    have hk : n < k0_t1_loop.trips := Nat.lt_of_lt_of_le hn (by decide +kernel)
    rw [pb_k0_t1_succ (F := Ideal) 𝒱 c bd i arg2 harg2 arg3 harg3 arg4 harg4 arg5 harg5 arg6 harg6 arg7 harg7 arg8 harg8 v0 X3 X4 G6 G7 G8 ⟨n, hk⟩]
    generalize pb_k0_t1 (F := Ideal) 𝒱 c bd i arg2 harg2 arg3 harg3 arg4 harg4 arg5 harg5 arg6 harg6 arg7 harg7 arg8 harg8 v0 X3 X4 G6 G7 G8 n = p at ih ⊢
    rw [trip1]
    simp only [List.cons_append, List.nil_append]
    rw [View.read_writes_full, View.read_writes_full, View.read_writes_full]
    have hoff := k0_off1_eq ⟨n, hk⟩
    refine step _ _ _ _ _ _ r d s v (512 * n) (fun j => ?_) (fun j => ?_) ih
    · rw [← hs ⟨512 * n + j.val, by have := j.isLt; omega⟩]
      refine Finset.sum_congr rfl fun e _ => ?_
      rw [block _ _ n hn hoff]
    · rw [← hv ⟨512 * n + j.val, by have := j.isLt; omega⟩]
      rw [block _ _ n hn hoff]

/-! ## Loop 2 -/

/-- What one trip stores: the new maximum, the new sum and the new weighted sum, each over its whole buffer. -/
theorem trip2 (X3 : BufTy.Contents (Elt Ideal) arg3.view.ty) (X4 : BufTy.Contents (Elt Ideal) arg4.view.ty)
    (k : Fin k0_t2_loop.trips) (f6 : BufTy.Contents (Elt Ideal) arg6.view.ty) (f7 : BufTy.Contents (Elt Ideal) arg7.view.ty)
    (f8 : BufTy.Contents (Elt Ideal) arg8.view.ty) (v27 : FVec Ideal S512x128 .f32) (v28 v29 : IVec S256x128 32) (v0 : Vec Ideal S1x256x128 .bf16) :
    tripL_k0_t2 (F := Ideal) 𝒱 c bd i arg2 harg2 arg3 harg3 arg4 harg4 arg5 harg5 arg6 harg6 arg7 harg7 arg8 harg8 v27 v28 v29 v0 X3 X4 k f6 f7 f8
      = ([⟨Rect.unit ![0, 0] S512x1.size inb_S512x1_S512x1_0_0, k0_pay18 (k0_pay3 (k0_pay14 v0)
            (View.ld (arg3.view.read (Elt Ideal) X3) (Rect.unit (k0_off2 k) S1x512x128.size (k0_off2_inb k)))
            (arg6.view.read (Elt Ideal) f6))⟩],
         [⟨Rect.unit ![0, 0] S512x1.size inb_S512x1_S512x1_0_0, k0_pay6 (k0_pay14 v0)
            (View.ld (arg3.view.read (Elt Ideal) X3) (Rect.unit (k0_off2 k) S1x512x128.size (k0_off2_inb k)))
            (arg6.view.read (Elt Ideal) f6) (arg7.view.read (Elt Ideal) f7)⟩],
         [⟨Rect.unit ![0, 0] S512x128.size inb_S512x128_S512x128_0_0, k0_pay7 (k0_pay14 v0)
            (View.ld (arg3.view.read (Elt Ideal) X3) (Rect.unit (k0_off2 k) S1x512x128.size (k0_off2_inb k)))
            (arg6.view.read (Elt Ideal) f6) (arg8.view.read (Elt Ideal) f8)
            (View.ld (arg4.view.read (Elt Ideal) X4) (Rect.unit (k0_off2 k) S1x512x128.size (k0_off2_inb k)))⟩]) := by
  unfold tripL_k0_t2 trip_k0_t2
  rw [← View.readAt_full arg6.view f6 inb_S512x1_S512x1_0_0, ← View.readAt_full arg7.view f7 inb_S512x1_S512x1_0_0,
    ← View.readAt_full arg8.view f8 inb_S512x128_S512x128_0_0]
  rfl

/-- After `n` trips, the running state at row `r` and lane `d`. -/
theorem loop2 (X3 : BufTy.Contents (Elt Ideal) arg3.view.ty) (X4 : BufTy.Contents (Elt Ideal) arg4.view.ty)
    (G6 : BufTy.Contents (Elt Ideal) arg6.view.ty) (G7 : BufTy.Contents (Elt Ideal) arg7.view.ty)
    (G8 : BufTy.Contents (Elt Ideal) arg8.view.ty) (v27 : FVec Ideal S512x128 .f32) (v28 v29 : IVec S256x128 32) (v0 : Vec Ideal S1x256x128 .bf16) (r : Fin 512) (d : Fin 128) (s : ℕ → ℝ) (v : ℕ → EReal)
    (hs : ∀ κ : Fin 4096, ∑ e : Fin 128, k0_pay14 v0 (ix2 r e) * arg3.view.read (Elt Ideal) X3 (ix3 0 κ e) = ((s κ.val : ℝ) : EReal))
    (hv : ∀ κ : Fin 4096, arg4.view.read (Elt Ideal) X4 (ix3 0 κ d) = v κ.val)
    (h6 : arg6.view.read (Elt Ideal) G6 (ix2 r 0) = (⊥ : EReal)) (h7 : arg7.view.read (Elt Ideal) G7 (ix2 r 0) = (0 : EReal))
    (h8 : arg8.view.read (Elt Ideal) G8 (ix2 r d) = (0 : EReal)) (n : ℕ) (hn : n ≤ 8) :
    Inv s v (512 * n)
      (arg6.view.read (Elt Ideal) (arg6.view.writes (Elt Ideal) G6 (pb_k0_t2 (F := Ideal) 𝒱 c bd i arg2 harg2 arg3 harg3 arg4 harg4 arg5 harg5 arg6 harg6 arg7 harg7 arg8 harg8 v27 v28 v29 v0 X3 X4 G6 G7 G8 n).1) (ix2 r 0))
      (arg7.view.read (Elt Ideal) (arg7.view.writes (Elt Ideal) G7 (pb_k0_t2 (F := Ideal) 𝒱 c bd i arg2 harg2 arg3 harg3 arg4 harg4 arg5 harg5 arg6 harg6 arg7 harg7 arg8 harg8 v27 v28 v29 v0 X3 X4 G6 G7 G8 n).2.1) (ix2 r 0))
      (arg8.view.read (Elt Ideal) (arg8.view.writes (Elt Ideal) G8 (pb_k0_t2 (F := Ideal) 𝒱 c bd i arg2 harg2 arg3 harg3 arg4 harg4 arg5 harg5 arg6 harg6 arg7 harg7 arg8 harg8 v27 v28 v29 v0 X3 X4 G6 G7 G8 n).2.2) (ix2 r d)) := by
  induction n with
  | zero =>
    rw [pb_k0_t2.eq_1]
    simp only [View.writes_nil]
    rw [h6, h7, h8]
    exact Inv.zero s v
  | succ n ih =>
    have ih := ih (Nat.le_of_succ_le hn)
    have hk : n < k0_t2_loop.trips := Nat.lt_of_lt_of_le hn (by decide +kernel)
    rw [pb_k0_t2_succ (F := Ideal) 𝒱 c bd i arg2 harg2 arg3 harg3 arg4 harg4 arg5 harg5 arg6 harg6 arg7 harg7 arg8 harg8 v27 v28 v29 v0 X3 X4 G6 G7 G8 ⟨n, hk⟩]
    generalize pb_k0_t2 (F := Ideal) 𝒱 c bd i arg2 harg2 arg3 harg3 arg4 harg4 arg5 harg5 arg6 harg6 arg7 harg7 arg8 harg8 v27 v28 v29 v0 X3 X4 G6 G7 G8 n = p at ih ⊢
    rw [trip2]
    simp only [List.cons_append, List.nil_append]
    rw [View.read_writes_full, View.read_writes_full, View.read_writes_full]
    have hoff := k0_off2_eq ⟨n, hk⟩
    refine step _ _ _ _ _ _ r d s v (512 * n) (fun j => ?_) (fun j => ?_) ih
    · rw [← hs ⟨512 * n + j.val, by have := j.isLt; omega⟩]
      refine Finset.sum_congr rfl fun e _ => ?_
      rw [block _ _ n hn hoff]
    · rw [← hv ⟨512 * n + j.val, by have := j.isLt; omega⟩]
      rw [block _ _ n hn hoff]

end

end Cert.AttnKernelIdeal.RefValue

end
-- ==== Proof.AttnBlock.lean ====
/-
  THE ATTENTION CALL: the body's block is the attention over all keys.

  The quotient of a loop's two sums is the softmax-weighted sum of the values, by the running-state lemma. A stacked query
  row carries one 64-lane head and zeros in the other head's lanes, so its product with a 128-lane key row is the
  64-lane product of that head.
-/
module

public import proofs.«01_k».proof.Defs
public import proofs.«01_k».proof.Proof.Gen.AttnKernelIdeal.Value
public import proofs.«01_k».proof.Proof.AttnLoop
public import proofs.«01_k».proof.Proof.Gen.AttnReferenceIdeal.Run
public import proofs.«01_k».proof.Proof.Gen.AttnReferenceIdeal.Read
public import Idealize.ShloMosaic.Lib.KernelVsHost
public import Idealize.ShloMosaic.Lib.Pointwise
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.AttnKernelIdeal.RefValue

open Cert.AttnKernelIdeal Cert.AttnKernelIdeal.Gen
open Idealize.ShloMosaic.Pipeline (Dat)
open Cert.Softmax (Inv)

/-- The softmax-weighted sum of the values `w` under the scores `t`. -/
def attn (t w : Fin 4096 → EReal) : EReal :=
  ∑ κ, w κ * Ideal.div (Ideal.exp (t κ - (Finset.univ : Finset (Fin 4096)).fold max (⊥ : EReal) t))
    (∑ κ', Ideal.exp (t κ' - (Finset.univ : Finset (Fin 4096)).fold max (⊥ : EReal) t))

/-- The running state over all keys gives it, when the scores are real. -/
theorem attn_of_inv (s : ℕ → ℝ) (v : ℕ → EReal) (t w : Fin 4096 → EReal) (ht : ∀ κ, t κ = ((s κ.val : ℝ) : EReal))
    (hw : ∀ κ, w κ = v κ.val) {m l a : EReal} (h : Inv s v 4096 m l a) : Ideal.div a l = attn t w := by
  rw [h.final s v (by decide) t w ht hw rfl]
  exact Finset.sum_congr rfl fun κ _ => mul_comm _ _

/-- The scores of a stacked query row. -/
abbrev score (q : FVec Ideal S512x128 .bf16) (x1 : Vec Ideal S1x4096x128 .bf16) (r : Fin 512) (κ : Fin 4096) : EReal :=
  ∑ e : Fin 128, q (ix2 r e) * x1 (ix3 0 κ e)

/-- Real scores, numbered by the naturals. -/
theorem exists_real (t : Fin 4096 → EReal) (h : ∀ κ, ∃ x : ℝ, t κ = (x : EReal)) : ∃ s : ℕ → ℝ, ∀ κ, t κ = ((s κ.val : ℝ) : EReal) := by
  choose f hf using h
  exact ⟨fun n => if h : n < 4096 then f ⟨n, h⟩ else 0, fun κ => by rw [hf]; simp⟩

/-- The lane test of the body, as a comparison of numbers. -/
theorem sel (c : Fin 128) (x y : EReal) :
    Scalar.select (IntOp.cmpi CmpIPredicate.slt (BitVec.ofNat 32 c.val) 64#32) x y = if c.val < 64 then x else y := by
  have h : ∀ c : Fin 128, IntOp.cmpi CmpIPredicate.slt (BitVec.ofNat 32 c.val) 64#32 = if c.val < 64 then 1#1 else 0#1 := by
    decide +kernel
  rw [h]
  split <;> rfl

/-- A sum over 128 lanes whose factor is zero on the upper half. -/
theorem sum_low (f g : Fin 128 → EReal) :
    ∑ e : Fin 128, (if e.val < 64 then f e else 0) * g e
      = ∑ e : Fin 64, f ⟨e.val, by have := e.isLt; omega⟩ * g ⟨e.val, by have := e.isLt; omega⟩ := by
  rw [show (∑ e : Fin 128, (if e.val < 64 then f e else 0) * g e) = ∑ e : Fin (64 + 64), (if e.val < 64 then f e else 0) * g e from rfl,
    Fin.sum_univ_add]
  have h0 : ∀ e : Fin 64, (if (Fin.natAdd 64 e).val < 64 then f (Fin.natAdd 64 e) else 0) * g (Fin.natAdd 64 e) = 0 := fun e => by
    rw [if_neg (by simp), zero_mul]
  rw [Finset.sum_eq_zero (fun e _ => h0 e), add_zero]
  refine Finset.sum_congr rfl fun e _ => ?_
  rw [if_pos (by simp)]
  rfl

/-- A sum over 128 lanes whose factor is zero on the lower half. -/
theorem sum_high (f g : Fin 128 → EReal) :
    ∑ e : Fin 128, (if e.val < 64 then 0 else f e) * g e
      = ∑ e : Fin 64, f ⟨64 + e.val, by have := e.isLt; omega⟩ * g ⟨64 + e.val, by have := e.isLt; omega⟩ := by
  rw [show (∑ e : Fin 128, (if e.val < 64 then 0 else f e) * g e) = ∑ e : Fin (64 + 64), (if e.val < 64 then 0 else f e) * g e from rfl,
    Fin.sum_univ_add]
  have h0 : ∀ e : Fin 64, (if (Fin.castAdd 64 e).val < 64 then 0 else f (Fin.castAdd 64 e)) * g (Fin.castAdd 64 e) = 0 := fun e => by
    rw [if_pos (by simp), zero_mul]
  rw [Finset.sum_eq_zero (fun e _ => h0 e), zero_add]
  refine Finset.sum_congr rfl fun e _ => ?_
  rw [if_neg (by simp)]
  rfl

/-- The stacked query: rows below 256 carry the lower 64 lanes, the others the upper 64 lanes. -/
theorem score_low (x : Vec Ideal S1x256x128 .bf16) (x1 : Vec Ideal S1x4096x128 .bf16) (r : Fin 256) (κ : Fin 4096) :
    score (k0_pay14 x) x1 ⟨r.val, by have := r.isLt; omega⟩ κ
      = ∑ e : Fin 64, x1 (ix3 0 κ ⟨e.val, by have := e.isLt; omega⟩) * x (ix3 0 r ⟨e.val, by have := e.isLt; omega⟩) := by
  have hp : ∀ e : Fin 128, k0_pay14 x (ix2 ⟨r.val, by have := r.isLt; omega⟩ e) = if e.val < 64 then x (ix3 0 r e) else 0 := fun e => by
    pointwise [k0_pay14]
    rw [sel]
  simp only [score, hp]
  rw [sum_low (fun e => x (ix3 0 r e)) (fun e => x1 (ix3 0 κ e))]
  exact Finset.sum_congr rfl fun e _ => mul_comm _ _

theorem score_high (x : Vec Ideal S1x256x128 .bf16) (x1 : Vec Ideal S1x4096x128 .bf16) (r : Fin 256) (κ : Fin 4096) :
    score (k0_pay14 x) x1 ⟨256 + r.val, by have := r.isLt; omega⟩ κ
      = ∑ e : Fin 64, x1 (ix3 0 κ ⟨64 + e.val, by have := e.isLt; omega⟩) * x (ix3 0 r ⟨64 + e.val, by have := e.isLt; omega⟩) := by
  have hp : ∀ e : Fin 128, k0_pay14 x (ix2 ⟨256 + r.val, by have := r.isLt; omega⟩ e) = if e.val < 64 then 0 else x (ix3 0 r e) := fun e => by
    pointwise [k0_pay14]
    rw [sel]
  simp only [score, hp]
  rw [sum_high (fun e => x (ix3 0 r e)) (fun e => x1 (ix3 0 κ e))]
  exact Finset.sum_congr rfl fun e _ => mul_comm _ _

section

variable (c : Dev nD) (i : grid0.Coords) (arg2 : Memref sig .tc .vmem S1x256x256 .bf16) (harg2 : arg2.IsWhole)
  (arg3 : Memref sig .tc .vmem S1x4096x128 .bf16) (harg3 : arg3.IsWhole) (arg4 : Memref sig .tc .vmem S1x4096x128 .bf16) (harg4 : arg4.IsWhole)
  (arg5 : Memref sig .tc .vmem S1x256x256 .bf16) (harg5 : arg5.IsWhole) (arg6 : Memref sig .tc .vmem S512x1 .f32) (harg6 : arg6.IsWhole)
  (arg7 : Memref sig .tc .vmem S512x1 .f32) (harg7 : arg7.IsWhole) (arg8 : Memref sig .tc .vmem S512x128 .f32) (harg8 : arg8.IsWhole)
  (x0 : Vec Ideal S1x256x256 .bf16) (x1 : Vec Ideal S1x4096x128 .bf16) (x2 : Vec Ideal S1x4096x128 .bf16)

/-- The left 128 lanes of the query block, and the right. -/
abbrev left : Vec Ideal S1x256x128 .bf16 := View.ld x0 (Rect.unit (s := S1x256x256) ![0, 0, 0] S1x256x128.size inb_S1x256x256_S1x256x128_0_0_0)
abbrev right : Vec Ideal S1x256x128 .bf16 := View.ld x0 (Rect.unit (s := S1x256x256) ![0, 0, 128] S1x256x128.size inb_S1x256x256_S1x256x128_0_0_128)

/-- The first loop's quotient. -/
theorem quotient1 (r : Fin 512) (d : Fin 128) (h : ∀ κ, ∃ x : ℝ, score (k0_pay14 (left x0)) x1 r κ = (x : EReal)) :
    Ideal.div (kernelRun0_A.sl.v24 (F := Ideal) c i arg2 harg2 arg3 harg3 arg4 harg4 arg5 harg5 arg6 harg6 arg7 harg7 arg8 harg8 x0 x1 x2 (ix2 r d)) (kernelRun0_A.sl.v25 (F := Ideal) c i arg2 harg2 arg3 harg3 arg4 harg4 arg5 harg5 arg6 harg6 arg7 harg7 arg8 harg8 x0 x1 x2 (ix2 r 0))
      = attn (score (k0_pay14 (left x0)) x1 r) (fun κ => x2 (ix3 0 κ d)) := by
  obtain ⟨s, hs⟩ := exists_real _ h
  have hl := loop1 Variants.none c none i arg2 harg2 arg3 harg3 arg4 harg4 arg5 harg5 arg6 harg6 arg7 harg7 arg8 harg8
    (harg3.unread x1) (harg4.unread x2)
    (arg6.view.writes (Elt Ideal) arg6.view.junk kernelRun0_A.sl.HS0_1)
    (arg7.view.writes (Elt Ideal) arg7.view.junk kernelRun0_A.sl.HS1_1)
    (arg8.view.writes (Elt Ideal) arg8.view.junk kernelRun0_A.sl.HS2_1)
    (View.readAt (Elt Ideal) arg2.view (Rect.unit (s := S1x256x256) ![0, 0, 0] S1x256x128.size inb_S1x256x256_S1x256x128_0_0_0).toLoadRect (harg2.unread x0))
    r d s (fun n => if h : n < 4096 then x2 (ix3 0 ⟨n, h⟩ d) else 0)
    (fun κ => by rw [View.readAt_eq_ld, harg2.read_unread, harg3.read_unread]; exact hs κ)
    (fun κ => by rw [harg4.read_unread, dif_pos κ.isLt])
    (by unfold kernelRun0_A.sl.HS0_1; rw [View.read_writes_full]; pointwise [k0_pay15]; rfl)
    (by unfold kernelRun0_A.sl.HS1_1; rw [View.read_writes_full]; pointwise [k0_pay16])
    (by unfold kernelRun0_A.sl.HS2_1; rw [View.read_writes_full]; pointwise [k0_pay17])
    8 le_rfl
  rw [← attn_of_inv s _ _ (fun κ => x2 (ix3 0 κ d)) hs (fun κ => by rw [dif_pos κ.isLt]) hl]
  unfold kernelRun0_A.sl.v24 kernelRun0_A.sl.v25
  unfold View.readCov
  rw [View.readAt_full, View.readAt_full, View.writes_append, View.writes_append]
  rfl

/-- The second loop's quotient. -/
theorem quotient2 (r : Fin 512) (d : Fin 128) (h : ∀ κ, ∃ x : ℝ, score (k0_pay14 (right x0)) x1 r κ = (x : EReal)) :
    Ideal.div (kernelRun0_A.sl.v62 (F := Ideal) c i arg2 harg2 arg3 harg3 arg4 harg4 arg5 harg5 arg6 harg6 arg7 harg7 arg8 harg8 x0 x1 x2 (ix2 r d)) (kernelRun0_A.sl.v63 (F := Ideal) c i arg2 harg2 arg3 harg3 arg4 harg4 arg5 harg5 arg6 harg6 arg7 harg7 arg8 harg8 x0 x1 x2 (ix2 r 0))
      = attn (score (k0_pay14 (right x0)) x1 r) (fun κ => x2 (ix3 0 κ d)) := by
  obtain ⟨s, hs⟩ := exists_real _ h
  unfold kernelRun0_A.sl.v62 kernelRun0_A.sl.v63
  unfold View.readCov
  rw [View.readAt_full, View.readAt_full, View.writes_append, View.writes_append]
  refine attn_of_inv s (fun n => if h : n < 4096 then x2 (ix3 0 ⟨n, h⟩ d) else 0) _ (fun κ => x2 (ix3 0 κ d)) hs (fun κ => by rw [dif_pos κ.isLt])
    (loop2 Variants.none c none i arg2 harg2 arg3 harg3 arg4 harg4 arg5 harg5 arg6 harg6 arg7 harg7 arg8 harg8
    (harg3.unread x1) (harg4.unread x2) _ _ _ _ _ _
    (View.readAt (Elt Ideal) arg2.view (Rect.unit (s := S1x256x256) ![0, 0, 128] S1x256x128.size inb_S1x256x256_S1x256x128_0_0_128).toLoadRect (harg2.unread x0))
    r d s (fun n => if h : n < 4096 then x2 (ix3 0 ⟨n, h⟩ d) else 0) ?_ ?_ ?_ ?_ ?_ 8 le_rfl)
  · exact fun κ => by rw [View.readAt_eq_ld, harg2.read_unread, harg3.read_unread]; exact hs κ
  · exact fun κ => by rw [harg4.read_unread, dif_pos κ.isLt]
  · rw [View.read_writes_full]; pointwise [k0_pay23]; rfl
  · rw [View.read_writes_full]; pointwise [k0_pay24]
  · rw [View.read_writes_full]; pointwise [k0_pay25]

/-- Sums of products of reals are real. -/
theorem real_sum {ι : Type} (A : Finset ι) (f g : ι → EReal) (hf : ∀ e, ∃ x : ℝ, f e = (x : EReal)) (hg : ∀ e, ∃ x : ℝ, g e = (x : EReal)) :
    ∃ x : ℝ, ∑ e ∈ A, f e * g e = (x : EReal) := by
  choose f' hf using hf
  choose g' hg using hg
  exact ⟨∑ e ∈ A, f' e * g' e, by rw [Cert.Softmax.coe_sum]; exact Finset.sum_congr rfl fun e _ => by rw [hf, hg, EReal.coe_mul]⟩

/-- Lane `d` selects the head `d / 64`: its stacked row's scores are the head's own 64-lane products. -/
theorem attn_head (x : Vec Ideal S1x256x128 .bf16) (r : Fin 256) (d : Fin 128) (w : Fin 4096 → EReal) :
    (if d.val < 64 then attn (score (k0_pay14 x) x1 ⟨r.val, by have := r.isLt; omega⟩) w
      else attn (score (k0_pay14 x) x1 ⟨256 + r.val, by have := r.isLt; omega⟩) w)
      = attn (fun κ => ∑ e : Fin 64, x1 (ix3 0 κ ⟨d.val / 64 * 64 + e.val, by have := e.isLt; have := d.isLt; omega⟩)
          * x (ix3 0 r ⟨d.val / 64 * 64 + e.val, by have := e.isLt; have := d.isLt; omega⟩)) w := by
  have hd := d.isLt
  split
  · congr 1
    funext κ
    rw [score_low]
    have h0 : d.val / 64 * 64 = 0 := by omega
    simp only [h0, Nat.zero_add]
  · congr 1
    funext κ
    rw [score_high]
    have h0 : d.val / 64 * 64 = 64 := by omega
    simp only [h0]

/-- With real queries and keys the scores of a stacked row are real. -/
theorem score_real (x : Vec Ideal S1x256x128 .bf16) (hx : ∀ y, ∃ z : ℝ, x y = (z : EReal)) (hx1 : ∀ y, ∃ z : ℝ, x1 y = (z : EReal)) (r : Fin 512) :
    ∀ κ, ∃ z : ℝ, score (k0_pay14 x) x1 r κ = (z : EReal) := by
  intro κ
  have hr := r.isLt
  by_cases h : r.val < 256
  · obtain ⟨z, hz⟩ := real_sum Finset.univ _ _ (fun e : Fin 64 => hx1 (ix3 0 κ ⟨e.val, by have := e.isLt; omega⟩))
      (fun e => hx (ix3 0 (⟨r.val, h⟩ : Fin 256) ⟨e.val, by have := e.isLt; omega⟩))
    exact ⟨z, (score_low x x1 ⟨r.val, h⟩ κ).trans hz⟩
  · obtain ⟨z, hz⟩ := real_sum Finset.univ _ _ (fun e : Fin 64 => hx1 (ix3 0 κ ⟨64 + e.val, by have := e.isLt; omega⟩))
      (fun e => hx (ix3 0 (⟨r.val - 256, by omega⟩ : Fin 256) ⟨64 + e.val, by have := e.isLt; omega⟩))
    have he : r = ⟨256 + (r.val - 256), by omega⟩ := Fin.ext (by simp only; omega)
    rw [he]
    exact ⟨z, (score_high x x1 ⟨r.val - 256, by omega⟩ κ).trans hz⟩

/-- A block index is a row and a lane. -/
theorem lanes (x : S1x256x128.Idx) : ∃ (r : Fin 256) (d : Fin 128), x = ix3 0 r d :=
  ⟨x 1, x 2, by
    funext a
    fin_cases a
    · exact Fin.ext (by have : (x 0).val < 1 := (x 0).isLt; show (x 0).val = 0; omega)
    · rfl
    · rfl⟩

/-- The two halves of the query block at an index. -/
theorem left_at (r : Fin 256) (e : Fin 128) : left x0 (ix3 0 r e) = x0 (ix3 0 r ⟨e.val, by have := e.isLt; omega⟩) := by
  refine congrArg x0 (funext fun a => Fin.ext ?_)
  fin_cases a <;> simp [Rect.unit, LoadRect.idx]
theorem right_at (r : Fin 256) (e : Fin 128) : right x0 (ix3 0 r e) = x0 (ix3 0 r ⟨128 + e.val, by have := e.isLt; omega⟩) := by
  refine congrArg x0 (funext fun a => Fin.ext ?_)
  fin_cases a <;> simp [Rect.unit, LoadRect.idx]

/-- The body's first piece. -/
theorem piece_left (hx0 : ∀ y, ∃ x : ℝ, x0 y = (x : EReal)) (hx1 : ∀ y, ∃ x : ℝ, x1 y = (x : EReal)) (r : Fin 256) (d : Fin 128) :
    k0_pay21 (kernelRun0_A.sl.r (F := Ideal) c i arg2 harg2 arg3 harg3 arg4 harg4 arg5 harg5 arg6 harg6 arg7 harg7 arg8 harg8 x0 x1 x2) kernelRun0_A.sl.v28 k0_pay20 (ix3 0 r d)
      = attn (fun κ => ∑ e : Fin 64, x1 (ix3 0 κ ⟨d.val / 64 * 64 + e.val, by have := e.isLt; have := d.isLt; omega⟩)
          * left x0 (ix3 0 r ⟨d.val / 64 * 64 + e.val, by have := e.isLt; have := d.isLt; omega⟩)) (fun κ => x2 (ix3 0 κ d)) := by
  have hl : ∀ y, ∃ z : ℝ, left x0 y = (z : EReal) := fun y => hx0 _
  rw [← attn_head]
  unfold kernelRun0_A.sl.r kernelRun0_A.sl.v28
  pointwise [k0_pay21, k0_pay19, k0_pay20]
  rw [sel, quotient1 _ _ _ _ _ _ _ _ _ _ _ _ _ _ _ _ _ _ _ _ _ (score_real x1 _ hl hx1 _), quotient1 _ _ _ _ _ _ _ _ _ _ _ _ _ _ _ _ _ _ _ _ _ (score_real x1 _ hl hx1 _)]

/-- The body's second piece. -/
theorem piece_right (hx0 : ∀ y, ∃ x : ℝ, x0 y = (x : EReal)) (hx1 : ∀ y, ∃ x : ℝ, x1 y = (x : EReal)) (r : Fin 256) (d : Fin 128) :
    k0_pay1 (kernelRun0_A.sl.v62 (F := Ideal) c i arg2 harg2 arg3 harg3 arg4 harg4 arg5 harg5 arg6 harg6 arg7 harg7 arg8 harg8 x0 x1 x2) (kernelRun0_A.sl.v63 (F := Ideal) c i arg2 harg2 arg3 harg3 arg4 harg4 arg5 harg5 arg6 harg6 arg7 harg7 arg8 harg8 x0 x1 x2) (ix3 0 r d)
      = attn (fun κ => ∑ e : Fin 64, x1 (ix3 0 κ ⟨d.val / 64 * 64 + e.val, by have := e.isLt; have := d.isLt; omega⟩)
          * right x0 (ix3 0 r ⟨d.val / 64 * 64 + e.val, by have := e.isLt; have := d.isLt; omega⟩)) (fun κ => x2 (ix3 0 κ d)) := by
  have hl : ∀ y, ∃ z : ℝ, right x0 y = (z : EReal) := fun y => hx0 _
  rw [← attn_head]
  pointwise [k0_pay1]
  rw [sel, quotient2 _ _ _ _ _ _ _ _ _ _ _ _ _ _ _ _ _ _ _ _ _ (score_real x1 _ hl hx1 _), quotient2 _ _ _ _ _ _ _ _ _ _ _ _ _ _ _ _ _ _ _ _ _ (score_real x1 _ hl hx1 _)]

/-- THE BLOCK the body leaves: one row of one head is the attention of that row over that head's keys and values. -/
theorem out_block (hx0 : ∀ y, ∃ x : ℝ, x0 y = (x : EReal)) (hx1 : ∀ y, ∃ x : ℝ, x1 y = (x : EReal)) :
    out0_A_3 (F := Ideal) c i arg2 harg2 arg3 harg3 arg4 harg4 arg5 harg5 arg6 harg6 arg7 harg7 arg8 harg8 x0 x1 x2 = fun y : S1x256x256.Idx => attn
      (fun κ => ∑ e : Fin 64, x1 (ix3 0 κ ⟨(y 2).val / 64 % 2 * 64 + e.val, by have := e.isLt; omega⟩)
        * x0 (ix3 0 (y 1) ⟨(y 2).val / 128 * 128 + (y 2).val / 64 % 2 * 64 + e.val, by have := e.isLt; have : (y 2).val < 256 := (y 2).isLt; omega⟩))
      (fun κ => x2 (ix3 0 κ ⟨(y 2).val % 128, by omega⟩)) := by
  unfold out0_A_3 kernelRun0_A
  rw [View.read_writes_junk_eq_canon]
  funext y
  canon_tiles x h
  · obtain ⟨r, d, rfl⟩ := lanes x
    replace h1 : (y 1).val = r.val := h1
    replace h2 : (y 2).val = 128 + d.val := h2
    have hd := d.isLt
    refine (piece_right _ _ _ _ _ _ _ _ _ _ _ _ _ _ _ _ _ _ _ hx0 hx1 r d).trans ?_
    congr 1
    · funext κ
      refine Finset.sum_congr rfl fun e _ => ?_
      rw [right_at]
      congr 2
      · congr 1
        exact Fin.ext (by simp only; omega)
      · congr 1
        · exact Fin.ext h1.symm
        · exact Fin.ext (by simp only; omega)
    · funext κ
      congr 2
      exact Fin.ext (by simp only; omega)
  · obtain ⟨r, d, rfl⟩ := lanes x
    replace h1 : (y 1).val = r.val := h1
    replace h2 : (y 2).val = d.val := h2
    have hd := d.isLt
    refine (piece_left _ _ _ _ _ _ _ _ _ _ _ _ _ _ _ _ _ _ _ hx0 hx1 r d).trans ?_
    congr 1
    · funext κ
      refine Finset.sum_congr rfl fun e _ => ?_
      rw [left_at]
      congr 2
      · congr 1
        exact Fin.ext (by simp only; omega)
      · congr 1
        · exact Fin.ext h1.symm
        · exact Fin.ext (by simp only; omega)
    · funext κ
      congr 2
      exact Fin.ext (by simp only; omega)

end

end Cert.AttnKernelIdeal.RefValue

end
-- ==== Proof.Finite.lean ====
/-
  FINITENESS PREDICATES: what a predicate "all elements are below infinity in absolute value" says of each element.
-/
module

public import proofs.«01_k».proof.Defs
public import Idealize.ShloMosaic.Lib.ReduceAll
public import Idealize.ShloMosaic.Lib.Pointwise
public import Idealize.ShloMosaic.Lib.ValueIdx

@[expose] public section

set_option maxRecDepth 16384

noncomputable section

open Idealize.ShloMosaic

namespace Cert.Finite

/-- An extended real whose absolute value is below infinity is a real number. -/
theorem real_of_abs_lt (x : EReal) (h : Ideal.cmp .olt (max x (-x)) (Ideal.ofBits FTy.f32 0x7F800000#32) = 1#1) : ∃ r : ℝ, x = (r : EReal) := by
  rw [show Ideal.ofBits .f32 0x7F800000#32 = ⊤ by simp [Ideal.ofBits, Ideal.ieee]] at h
  have h1 : max x (-x) < ⊤ := (Ideal.cmp_olt_eq_one _ _).1 h
  induction x using EReal.rec with
  | bot => simp at h1
  | top => simp at h1
  | coe r => exact ⟨r, rfl⟩

/-- THE FORM every predicate has, for one array. -/
theorem real_of_all {s t u : Shape} {axes : List (Fin s.rank)} [Subsingleton t.Idx] (x : FVec Ideal s .f32) (b : FVec Ideal s .f32)
    (hb : ∀ i, b i = Ideal.ofBits FTy.f32 0x7F800000#32) (init : IVec u 1) (h : s.ReducesTo axes t) (hu : 0 < u.numel) (j : t.Idx)
    (e : Host.reduce IntOp.andi (cmpf .olt (Host.absf x) b) init h hu j = 1#1) (i : s.Idx) : ∃ r : ℝ, x i = (r : EReal) := by
  have h1 := Host.reduce_andi_all _ _ h hu j e i
  refine real_of_abs_lt (x i) ?_
  rw [← hb i]
  exact h1

end Cert.Finite

end
-- ==== Proof.AttnValue.lean ====
/-
  THE ATTENTION CALL: the array its run leaves is the reference's array, for finite queries and keys.

  Each grid point is one batch element and one tile of 256 rows; it holds the whole keys and values of its batch element.
-/
module

public import proofs.«01_k».proof.Defs
public import proofs.«01_k».proof.Proof.AttnBlock
public import proofs.«01_k».proof.Proof.Finite
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.Gen.Pre_attn_finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttnKernelIdeal.RefValue

open Cert.AttnKernelIdeal Cert.AttnKernelIdeal.Gen
open Idealize.ShloMosaic.Pipeline (Dat)

variable (m : (ℓ : Loc nD τ sig) → Buf (Elt Ideal) ℓ) (ρ : Dev nD → PrngReg)

/-- The reference's result on the kernel's argument arrays. -/
abbrev G (c : Dev nD) : Buf (Elt Ideal) ((c : Thread nD τ).loc main_v0) :=
  Cert.AttnReferenceIdeal.Read.val_main_v22 (F := Ideal) (m ((c : Thread nD τ).loc main_arg0)) (m ((c : Thread nD τ).loc main_arg1))
    (m ((c : Thread nD τ).loc main_arg2))

/-- Queries and keys are finite. -/
abbrev Fin' (c : Dev nD) : Prop :=
  (∀ y, ∃ x : ℝ, m ((c : Thread nD τ).loc main_arg0) y = (x : EReal)) ∧ (∀ y, ∃ x : ℝ, m ((c : Thread nD τ).loc main_arg1) y = (x : EReal))

/-- What the precondition says. -/
theorem finite_of_pre (c : Dev nD) (h : Cert.Pre_attn_finite.fn (F := Ideal) (m ((c : Thread nD τ).loc main_arg0)) (m ((c : Thread nD τ).loc main_arg1))
    (m ((c : Thread nD τ).loc main_arg2)) = fun _ => 1#1) : Fin' m c := by
  have h0 := congrFun h ix0
  unfold Cert.Pre_attn_finite.fn at h0
  obtain ⟨ha, hb⟩ := IntOp.andi_eq_one.1 h0
  exact ⟨Cert.Finite.real_of_all _ _ (fun _ => rfl) _ _ _ _ ha, Cert.Finite.real_of_all _ _ (fun _ => rfl) _ _ _ _ hb⟩

/-- The reference at an index. -/
theorem ref (q : FVec Ideal S16x4096x256 .bf16) (k v : FVec Ideal S16x4096x128 .bf16) (b : Fin 16) (i : Fin 4096) (l : Fin 256) :
    Cert.AttnReferenceIdeal.Read.val_main_v22 (F := Ideal) q k v (ix3 b i l) = attn
      (fun κ => ∑ e : Fin 64, k (ix3 b κ ⟨l.val / 64 % 2 * 64 + e.val, by have := e.isLt; omega⟩)
        * q (ix3 b i ⟨l.val / 128 * 128 + l.val / 64 % 2 * 64 + e.val, by have := e.isLt; have := l.isLt; omega⟩))
      (fun κ => v (ix3 b κ ⟨l.val % 128, by omega⟩)) := by
  rw [← Cert.AttnReferenceIdeal.Read.val_main_v22_eq]
  pointwise
  unfold attn
  have hl : l.val / 64 % 2 * 64 + l.val % 64 = l.val % 128 := by omega
  simp only [hl, show Ideal.ofBits FTy.f32 4286578688#32 = (⊥ : EReal) from rfl]

/-- The same at an index given whole. -/
theorem ref' (q : FVec Ideal S16x4096x256 .bf16) (k v : FVec Ideal S16x4096x128 .bf16) (j : S16x4096x256.Idx) :
    Cert.AttnReferenceIdeal.Read.val_main_v22 (F := Ideal) q k v j = attn
      (fun κ => ∑ e : Fin 64, k (ix3 (j 0) κ ⟨(j 2).val / 64 % 2 * 64 + e.val, by have := e.isLt; omega⟩)
        * q (ix3 (j 0) (j 1) ⟨(j 2).val / 128 * 128 + (j 2).val / 64 % 2 * 64 + e.val, by have := e.isLt; have : (j 2).val < 256 := (j 2).isLt; omega⟩))
      (fun κ => v (ix3 (j 0) κ ⟨(j 2).val % 128, by omega⟩)) := by
  obtain ⟨b, i, l, rfl⟩ : ∃ (b : Fin 16) (i : Fin 4096) (l : Fin 256), j = ix3 b i l :=
    ⟨j 0, j 1, j 2, by funext a; fin_cases a <;> rfl⟩
  exact ref q k v b i l

/-- Where each window's block lies at a grid point: the point is a batch element and a tile of rows. -/
theorem idx : ∀ t : Fin grid0.N,
    win0_0.index t = ![t.val / 16, t.val % 16, 0] ∧ win0_1.index t = ![t.val / 16, 0, 0] ∧ win0_2.index t = ![t.val / 16, 0, 0]
    ∧ win0_3.index t = ![t.val / 16, t.val % 16, 0] := by decide +kernel

/-- The result array after the run is the reference's result, whole. -/
theorem final (c : Dev nD) (hf : Fin' m c) : (dats m 0 c).arrAt 3 cfg0.N = G m c := by
  refine (dats m 0 c).arrAt_eq_of_covers 3 _ (by decide +kernel) fun t hft y => ?_
  blk_simp
  rw [after0_3]
  unfold outsAt0
  refine (congrFun (out_block _ _ _ _ _ _ _ _ _ _ _ _ _ _ _ _ (iblk m c 0 t) (iblk m c 1 t) (iblk m c 2 t) (fun y => hf.1 _) (fun y => hf.2 _)) y).trans ?_
  refine Eq.trans ?_ (ref' _ _ _ _).symm
  refine congrArg₂ attn (funext fun κ => ?_) (funext fun κ => ?_)
  · blk_point [iblk, V, idx t]
  · blk_point [iblk, V, idx t]

/-- The run: the result array at the reference's value, the arguments unchanged. -/
theorem run (hf : ∀ c, Fin' m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (hf c)), (h c).2⟩) (Value.run_blocks m ρ)

end Cert.AttnKernelIdeal.RefValue

end
-- ==== Proof.FfnValue.lean ====
/-
  THE EXPERT FEED-FORWARD CALL: the array its run leaves is the reference's array.

  Each grid point writes one tile of 512 rows of one expert. The tile's contents are the body's payload over the point's
  input blocks; read at an index, that payload is the reference's own expression at the index's place in the whole array.
-/
module

public import proofs.«01_k».proof.Defs
public import proofs.«01_k».proof.Proof.Gen.FfnKernelIdeal.Value
public import proofs.«01_k».proof.Proof.Gen.FfnReferenceIdeal.Run
public import proofs.«01_k».proof.Proof.Gen.FfnReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnKernelIdeal.RefValue

open Cert.FfnKernelIdeal Cert.FfnKernelIdeal.Gen
open Idealize.ShloMosaic.Pipeline (Dat)

variable (m : (ℓ : Loc nD τ sig) → Buf (Elt Ideal) ℓ) (ρ : Dev nD → PrngReg)

/-- The reference's result on the kernel's argument arrays. -/
abbrev G (c : Dev nD) : Buf (Elt Ideal) ((c : Thread nD τ).loc main_v0) :=
  Cert.FfnReferenceIdeal.Read.val_main_v10 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block lies at a grid point: expert `t / 16`, row tile `t % 16`. -/
theorem idx : ∀ t : Fin grid0.N,
    win0_0.index t = ![t.val / 16, t.val % 16, 0] ∧ win0_1.index t = ![t.val / 16, 0, 0] ∧ win0_2.index t = ![t.val / 16, 0, 0]
    ∧ win0_3.index t = ![t.val / 16, 0, 0] ∧ win0_4.index t = ![t.val / 16, t.val % 16, 0]
    ∧ win0_5.index t = ![t.val / 16, t.val % 16, 0] := by decide +kernel

/-- The result array after the run is the reference's result, whole. -/
theorem final (c : Dev nD) : (dats m 0 c).arrAt 5 cfg0.N = G m c := by
  refine (dats m 0 c).arrAt_eq_of_covers 5 _ (by decide +kernel) fun t hf y => ?_
  blk_simp
  rw [after0_5]
  frame_out
  unfold G
  rw [← Cert.FfnReferenceIdeal.Read.val_main_v10_eq]
  pointwise [k0_pay1]
  simp only [Ideal.logistic]
  blk_point [iblk, V, idx t]

/-- The run: the result array at the reference's value, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FfnKernelIdeal.RefValue

end
-- ==== Proof.NormMath.lean ====
/-
  ROOT-MEAN-SQUARE NORMALISATION ON THE EXTENDED REALS.

  A row scaled by the reciprocal root of its mean square is finite whatever the row is: a row with an infinite entry has the
  infinite mean square, whose reciprocal root is 0. A sum over 256 lanes that keeps only the lanes of one group of 64 is the sum
  over the group; and a lane's group, written as a floor division of machine integers, is its number divided by 64.
-/
module

public import proofs.«01_k».proof.Defs
public import proofs.«01_k».proof.Proof.SoftmaxMath
public import Idealize.ShloMosaic.Lib.Pointwise

@[expose] public section

set_option maxRecDepth 16384

noncomputable section

open Idealize.ShloMosaic
open scoped BigOperators

namespace Cert.Norm

theorem c64 : Ideal.ofBits FTy.f32 1115684864#32 = ((64 : ℝ) : EReal) := by
  simp [Ideal.ofBits, Ideal.ieee, -EReal.coe_mul]; norm_num

theorem inv64 : Ideal.ofBits FTy.f32 1015021568#32 = ((1 / 64 : ℝ) : EReal) := by
  simp [Ideal.ofBits, Ideal.ieee, -EReal.coe_mul]; norm_num

theorem c1024 : Ideal.ofBits FTy.f32 1149239296#32 = ((1024 : ℝ) : EReal) := by
  simp [Ideal.ofBits, Ideal.ieee, -EReal.coe_mul]; norm_num

theorem eps : ∃ e : ℝ, 0 < e ∧ Ideal.ofBits FTy.f32 897988541#32 = (e : EReal) := by
  refine ⟨8796093 / 2 ^ 43, by norm_num, ?_⟩
  simp [Ideal.ofBits, Ideal.ieee, -EReal.coe_mul]; norm_num

/-- Dividing by 64 is multiplying by its reciprocal. -/
theorem div64 (x : EReal) : Ideal.div x (Ideal.ofBits FTy.f32 1115684864#32) = x * Ideal.ofBits FTy.f32 1015021568#32 := by
  rw [c64, inv64, Ideal.div_coe (by norm_num : (64 : ℝ) ≠ 0)]

/-- The reciprocal root of the mean square of a row. -/
def scale (x : Fin 1024 → EReal) : EReal :=
  Ideal.rsqrt (Ideal.div (∑ k, x k * x k) (Ideal.ofBits FTy.f32 1149239296#32) + Ideal.ofBits FTy.f32 897988541#32)

/-- A row normalised by its root mean square and scaled by the gains. -/
def rms (x g : Fin 1024 → EReal) (d : Fin 1024) : EReal := x d * scale x * g d

theorem sq_nonneg (x : EReal) : 0 ≤ x * x := by
  induction x using EReal.rec with
  | bot => simp
  | top => simp
  | coe r => rw [← EReal.coe_mul]; exact_mod_cast mul_self_nonneg r

theorem sq_top {x : EReal} (h : x = ⊥ ∨ x = ⊤) : x * x = ⊤ := by
  rcases h with rfl | rfl <;> simp

theorem rsqrt_pos_real {r : ℝ} (h : 0 < r) : Ideal.rsqrt (r : EReal) = (((Real.sqrt r)⁻¹ : ℝ) : EReal) := by
  simp [not_lt.2 h.le, h.ne']

/-- The reciprocal root of a positive number, or of infinity, is a real number. -/
theorem rsqrt_real {s : EReal} (h : 0 ≤ s) {n e : ℝ} (hn : 0 < n) (he : 0 < e) :
    ∃ r : ℝ, Ideal.rsqrt (Ideal.div s (n : EReal) + (e : EReal)) = (r : EReal) := by
  rw [Ideal.div_coe hn.ne']
  have hp : (0 : ℝ) < 1 / n := by positivity
  induction s using EReal.rec with
  | bot => simp at h
  | top => rw [EReal.top_mul_coe_of_pos hp, EReal.top_add_coe, Ideal.rsqrt_top]; exact ⟨0, rfl⟩
  | coe s =>
    have hs : 0 ≤ s := by exact_mod_cast h
    rw [← EReal.coe_mul, ← EReal.coe_add, rsqrt_pos_real (by positivity)]
    exact ⟨_, rfl⟩

/-- A normalised row is finite where its gains are. -/
theorem rms_real (x g : Fin 1024 → EReal) (d : Fin 1024) (hg : ∃ r : ℝ, g d = (r : EReal)) : ∃ r : ℝ, rms x g d = (r : EReal) := by
  obtain ⟨g0, hg⟩ := hg
  obtain ⟨e, he, hE⟩ := eps
  have h0 : ∀ k ∈ (Finset.univ : Finset (Fin 1024)), 0 ≤ x k * x k := fun k _ => sq_nonneg _
  have hS : 0 ≤ ∑ k, x k * x k := Finset.sum_nonneg h0
  unfold rms
  by_cases hx : x d = ⊥ ∨ x d = ⊤
  · have : ∑ k, x k * x k = ⊤ := top_le_iff.1 ((sq_top hx).ge.trans (Finset.single_le_sum h0 (Finset.mem_univ d)))
    have hs : scale x = 0 := by
      unfold scale
      rw [this, c1024, hE, Ideal.div_coe (by norm_num), EReal.top_mul_coe_of_pos (by norm_num), EReal.top_add_coe, Ideal.rsqrt_top]
    rw [hs, mul_zero, zero_mul]
    exact ⟨0, rfl⟩
  · obtain ⟨r, hr⟩ : ∃ r : ℝ, scale x = (r : EReal) := by
      unfold scale
      rw [c1024, hE]
      exact rsqrt_real hS (by norm_num) he
    obtain ⟨y, hy⟩ : ∃ y : ℝ, x d = (y : EReal) := by
      revert hx
      generalize x d = z
      intro hx
      induction z using EReal.rec with
      | bot => simp at hx
      | top => simp at hx
      | coe y => exact ⟨y, rfl⟩
    rw [hr, hy, hg, ← EReal.coe_mul, ← EReal.coe_mul]
    exact ⟨_, rfl⟩

/-- A finite number less itself is zero. -/
theorem sub_self_real {x : EReal} (h : ∃ r : ℝ, x = (r : EReal)) : x - x = 0 := by
  obtain ⟨r, rfl⟩ := h
  rw [← EReal.coe_sub, sub_self]; rfl

theorem sq_real {x : EReal} (h : ∃ r : ℝ, x = (r : EReal)) : ∃ r : ℝ, x * x = (r : EReal) := by
  obtain ⟨r, rfl⟩ := h
  exact ⟨r * r, by rw [EReal.coe_mul]⟩

/-- A sum over 256 lanes that keeps the lanes of lane `d`'s group of 64 is the sum over the group. -/
theorem group_sum (d : Fin 256) (f : Fin 256 → EReal) :
    ∑ x : Fin 256, (if x.val / 64 = d.val / 64 then f x else 0)
      = ∑ e : Fin 64, f ⟨d.val / 64 * 64 + e.val, by have := e.isLt; have := d.isLt; omega⟩ := by
  rw [← Finset.sum_filter]
  symm
  refine Finset.sum_nbij (fun e => ⟨d.val / 64 * 64 + e.val, by have := e.isLt; have := d.isLt; omega⟩) ?_ ?_ ?_ ?_
  · intro e _
    have := e.isLt
    simp only [Finset.mem_filter, Finset.mem_univ, true_and]
    omega
  · intro a _ b _ h
    have := congrArg Fin.val h
    simp only at this
    exact Fin.ext (by omega)
  · intro x hx
    simp only [Finset.coe_filter, Finset.mem_univ, true_and, Set.mem_setOf_eq] at hx
    exact ⟨⟨x.val % 64, Nat.mod_lt _ (by norm_num)⟩, by simp, Fin.ext (by simp only; omega)⟩
  · intro e _
    rfl

/-- The group of a lane, as the kernel computes it: a division of machine integers, corrected where the signs differ. -/
theorem lane_group (x : Fin 256) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by
  revert x
  decide +kernel

/-- Two lanes' groups compared. -/
theorem sel_group (x d : Fin 256) (a b : EReal) :
    Scalar.select (IntOp.cmpi CmpIPredicate.eq (BitVec.ofNat 32 (x.val / 64)) (BitVec.ofNat 32 (d.val / 64))) a b
      = if x.val / 64 = d.val / 64 then a else b := by
  have key : ∀ p q : Fin 4, IntOp.cmpi CmpIPredicate.eq (BitVec.ofNat 32 p.val) (BitVec.ofNat 32 q.val) = if p.val = q.val then 1#1 else 0#1 := by
    decide +kernel
  have h := key ⟨x.val / 64, by omega⟩ ⟨d.val / 64, by omega⟩
  simp only at h
  rw [h]
  by_cases e : x.val / 64 = d.val / 64
  · rw [if_pos e, if_pos e]; rfl
  · rw [if_neg e, if_neg e]; rfl

/-- One row of a branch normalised in groups of 64 lanes. -/
def grp (o g : Fin 256 → EReal) (c : Fin 256) : EReal :=
  o c * Ideal.rsqrt (Ideal.div (∑ e : Fin 64, o ⟨c.val / 64 * 64 + e.val, by have := e.isLt; have := c.isLt; omega⟩
      * o ⟨c.val / 64 * 64 + e.val, by have := e.isLt; have := c.isLt; omega⟩) (Ideal.ofBits FTy.f32 1115684864#32)
    + Ideal.ofBits FTy.f32 897988541#32) * g c

/-- The maximum of sixteen numbers, from minus infinity. -/
def top16 (l : Fin 16 → EReal) : EReal := Finset.fold max (Ideal.ofBits FTy.f32 4286578688#32) l Finset.univ

/-- The softmax of sixteen numbers. -/
def soft16 (l : Fin 16 → EReal) (e : Fin 16) : EReal :=
  Ideal.div (Ideal.exp (l e - top16 l)) (∑ x, Ideal.exp (l x - top16 l))

theorem max_bits (x : EReal) : max (Ideal.ofBits FTy.f32 4286578688#32) x = x := by
  rw [show Ideal.ofBits FTy.f32 4286578688#32 = (⊥ : EReal) from rfl]
  exact max_eq_right bot_le

/-- A router logit. -/
def logit (h : Fin 1024 → EReal) (w : Fin 1024 → EReal) : EReal := ∑ k, h k * w k

/-- A logit computed with weight and row each split into a part and a remainder that is zero. -/
theorem logit_split (h l w u : Fin 1024 → EReal) (hl : ∀ k, l k = 0) (hu : ∀ k, u k = 0) :
    ∑ k, h k * w k + ∑ k, h k * u k + ∑ k, l k * w k = logit h w := by
  simp only [hl, hu, mul_zero, zero_mul, Finset.sum_const_zero, add_zero]
  rfl

end Cert.Norm

end
-- ==== Proof.MergeSpec.lean ====
/-
  THE MERGE CALL'S THREE RESULTS, row by row.

  A row of each result depends on one row of each row array and on the weights. `x1` is the row with the gated branches added,
  its normalisation by `Cert.Norm.rms` is the second result, and the softmax of that row's router logits is the third.
-/
module

public import proofs.«01_k».proof.Defs
public import proofs.«01_k».proof.Proof.NormMath

@[expose] public section

set_option maxRecDepth 16384

noncomputable section

open Idealize.ShloMosaic
open scoped BigOperators

namespace Cert.MergeSpec

open Cert.Norm

/-- The value at one lane times its logistic. -/
def silu (s : EReal) : EReal := s * Ideal.div 1 (1 + Ideal.exp (-s))

/-- The last branch: normalised in groups of 64 lanes and gated. -/
def last (o g s : Fin 256 → EReal) (c : Fin 256) : EReal := grp o g c * silu (s c)

/-- The gate of a branch at one lane. -/
def gate (h w : Fin 1024 → EReal) : EReal := Ideal.div 1 (1 + Ideal.exp (-∑ k, h k * w k))

/-- The four branches projected, gated and added, at one lane. -/
def mix (h : Fin 1024 → EReal) (oa ob oc od : Fin 256 → EReal) (wg : Fin 1024 → Fin 4096 → EReal)
    (wb : Fin 4 → Fin 256 → Fin 1024 → EReal) (j : Fin 1024) : EReal :=
  gate h (fun k => wg k ⟨j.val, by have := j.isLt; omega⟩) * (∑ k, oa k * wb 0 k j)
    + gate h (fun k => wg k ⟨1024 + j.val, by have := j.isLt; omega⟩) * (∑ k, ob k * wb 1 k j)
    + gate h (fun k => wg k ⟨2048 + j.val, by have := j.isLt; omega⟩) * (∑ k, oc k * wb 2 k j)
    + gate h (fun k => wg k ⟨3072 + j.val, by have := j.isLt; omega⟩) * (∑ k, od k * wb 3 k j)

/-- The first result. -/
def x1 (x : Fin 1024 → EReal) (oa ob oc og : Fin 256 → EReal) (s : Fin 256 → EReal) (gm : Fin 1024 → EReal)
    (wg : Fin 1024 → Fin 4096 → EReal) (wb : Fin 4 → Fin 256 → Fin 1024 → EReal) (wo : Fin 1024 → Fin 1024 → EReal)
    (gn : Fin 256 → EReal) (d : Fin 1024) : EReal :=
  x d + ∑ j, mix (rms x gm) oa ob oc (last og gn s) wg wb j * wo j d

/-- The third result: the softmax of the router logits of a row. -/
def aff (h : Fin 1024 → EReal) (wr : Fin 1024 → Fin 16 → EReal) (e : Fin 16) : EReal := soft16 (fun f => logit h fun k => wr k f) e

end Cert.MergeSpec

end
-- ==== Proof.MergeBlock.lean ====
/-
  THE MERGE CALL'S BLOCKS, row by row: what one grid point stores, read at an index, over the point's input blocks.
-/
module

public import proofs.«01_k».proof.Defs
public import proofs.«01_k».proof.Proof.MergeSpec
public import proofs.«01_k».proof.Proof.Gen.MergeKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MergeKernelIdeal.RefValue

open Cert.MergeKernelIdeal Cert.MergeKernelIdeal.Gen Cert.Norm Cert.MergeSpec

/-- The first normalisation. -/
theorem pay2 (v0 : Vec Ideal S256x1024 .f32) (v1 : Vec Ideal S1x1024 .f32) (r : Fin 256) (d : Fin 1024) :
    k0_pay2 (F := Ideal) v0 v1 (ix2 r d) = rms (fun k => v0 (ix2 r k)) (fun k => v1 (ix2 0 k)) d := by
  pointwise [k0_pay2]
  rfl

/-- The last branch normalised in groups of 64 lanes, for a finite branch. -/
theorem pay8 (o : Vec Ideal S256x256 .f32) (g : Vec Ideal S1x256 .f32) (ho : ∀ y, ∃ z : ℝ, o y = (z : EReal)) (r d : Fin 256) :
    k0_pay8 (F := Ideal) o (k0_pay4 o) (k0_pay5 o) k0_pay6 k0_pay7 1#32 g (ix2 r d)
      = grp (fun k => o (ix2 r k)) (fun k => g (ix2 0 k)) d := by
  pointwise [k0_pay8, k0_pay4, k0_pay5, k0_pay3, k0_pay6, k0_pay7]
  simp only [lane_group, sel_group]
  have hz : ∀ x : Fin 256, o (ix2 r x) * o (ix2 r x) - o (ix2 r x) * o (ix2 r x) = 0 := fun x => sub_self_real (sq_real (ho _))
  simp only [hz, ite_self, Finset.sum_const_zero, add_zero]
  rw [group_sum d fun x => o (ix2 r x) * o (ix2 r x)]
  unfold grp
  rw [div64]

variable (x0 : Vec Ideal S256x1024 .f32) (x1 x2 x3 : Vec Ideal S256x256 .bf16) (x4 : Vec Ideal S256x256 .f32)
  (x5 : Vec Ideal S256x256 .bf16) (x6 : Vec Ideal S1x1024 .f32) (x7 : Vec Ideal S1024x4096 .bf16)
  (x8 : Vec Ideal S4x256x1024 .bf16) (x9 : Vec Ideal S1024x1024 .bf16) (x10 : Vec Ideal S1x256 .f32)
  (x11 : Vec Ideal S1x1024 .f32) (x12 x13 : Vec Ideal S1024x128 .bf16) (r : Fin 256)

theorem pay18 (d : Fin 1024) : k0_pay18 (F := Ideal) x0 x1 x2 x3 x4 x5 x6 x7 x8 x9 x10 x11 x12 x13 (ix2 r d)
    = rms (fun k => x0 (ix2 r k)) (fun k => x6 (ix2 0 k)) d := by
  unfold k0_pay18
  rw [pay2]
  pointwise

theorem ld4 : View.ld x4 r0_2 = x4 := by
  funext y
  obtain ⟨a, b, rfl⟩ : ∃ (a b : Fin 256), y = ix2 a b := ⟨y 0, y 1, by funext a; fin_cases a <;> rfl⟩
  pointwise

theorem pay19 (ho : ∀ y, ∃ z : ℝ, x4 y = (z : EReal)) (d : Fin 256) :
    k0_pay19 (F := Ideal) x0 x1 x2 x3 x4 x5 x6 x7 x8 x9 x10 x11 x12 x13 (ix2 r d)
      = last (fun k => x4 (ix2 r k)) (fun k => x10 (ix2 0 k)) (fun k => x5 (ix2 r k)) d := by
  unfold k0_pay19
  rw [ld4]
  have h := pay8 x4 (View.ld x10 r0_3) ho r d
  generalize k0_pay8 (F := Ideal) x4 (k0_pay4 x4) (k0_pay5 x4) k0_pay6 k0_pay7 1#32 (View.ld x10 r0_3) = v at h ⊢
  pointwise [k0_pay9]
  rw [h]
  simp only [Ideal.logistic]
  have hg : (fun k => View.ld x10 r0_3 (ix2 0 k)) = fun k => x10 (ix2 0 k) := by
    funext k
    pointwise
  rw [hg]
  rfl

/-- The row of the first result over the blocks. -/
abbrev row : Fin 1024 → EReal := MergeSpec.x1 (fun k => x0 (ix2 r k)) (fun k => x1 (ix2 r k)) (fun k => x2 (ix2 r k))
  (fun k => x3 (ix2 r k)) (fun k => x4 (ix2 r k)) (fun k => x5 (ix2 r k)) (fun k => x6 (ix2 0 k))
  (fun k j => x7 (ix2 k j)) (fun b k j => x8 (ix3 b k j)) (fun k j => x9 (ix2 k j)) (fun k => x10 (ix2 0 k))

/-- The first result's payload. -/
abbrev P13 : FVec Ideal S256x1024 .f32 := k0_pay13 (F := Ideal) x0 (k0_pay18 x0 x1 x2 x3 x4 x5 x6 x7 x8 x9 x10 x11 x12 x13)
  (k0_pay19 x0 x1 x2 x3 x4 x5 x6 x7 x8 x9 x10 x11 x12 x13) x3 (k0_pay20 x0 x1 x2 x3 x4 x5 x6 x7 x8 x9 x10 x11 x12 x13)
  (k0_pay21 x0 x1 x2 x3 x4 x5 x6 x7 x8 x9 x10 x11 x12 x13) (k0_pay22 x0 x1 x2 x3 x4 x5 x6 x7 x8 x9 x10 x11 x12 x13)
  (View.ld x7 r0_10) (View.ld x8 r0_11) x9

theorem pay13 (ho : ∀ y, ∃ z : ℝ, x4 y = (z : EReal)) (d : Fin 1024) :
    P13 x0 x1 x2 x3 x4 x5 x6 x7 x8 x9 x10 x11 x12 x13 (ix2 r d) = row x0 x1 x2 x3 x4 x5 x6 x7 x8 x9 x10 r d := by
  unfold P13 k0_pay20 k0_pay21 k0_pay22
  pointwise [k0_pay13, k0_pay10, k0_pay11, k0_pay12]
  simp only [pay18, pay19 _ _ _ _ _ _ _ _ _ _ _ _ _ _ _ ho, Ideal.logistic]
  rfl

theorem out14 (ho : ∀ y, ∃ z : ℝ, x4 y = (z : EReal)) (d : Fin 1024) :
    out0_14 (F := Ideal) x0 x1 x2 x3 x4 x5 x6 x7 x8 x9 x10 x11 x12 x13 (ix2 r d) = row x0 x1 x2 x3 x4 x5 x6 x7 x8 x9 x10 r d := by
  frame_out
  exact pay13 x0 x1 x2 x3 x4 x5 x6 x7 x8 x9 x10 x11 x12 x13 r ho d

/-- The second result's payload, from the first's. -/
theorem pay14 (v0 : Vec Ideal S256x1024 .f32) (v14 : FVec Ideal S256x1024 .bf16) (v93 : FVec Ideal S256x256 .bf16)
    (v96 : Vec Ideal S256x256 .bf16) (v113 v116 : FVec Ideal S256x1024 .f32) (v118 : FVec Ideal S256x1024 .bf16)
    (v122 : Vec Ideal S1024x1024 .bf16) (v125 : Vec Ideal S1x256x1024 .bf16) (v131 : Vec Ideal S1024x1024 .bf16)
    (v135 : Vec Ideal S1x1024 .f32) (d : Fin 1024) :
    k0_pay14 (F := Ideal) v0 v14 v93 v96 v113 v116 v118 v122 v125 v131 v135 (ix2 r d)
      = rms (fun k => k0_pay13 (F := Ideal) v0 v14 v93 v96 v113 v116 v118 v122 v125 v131 (ix2 r k)) (fun k => v135 (ix2 0 k)) d := by
  unfold k0_pay14
  generalize k0_pay13 (F := Ideal) v0 v14 v93 v96 v113 v116 v118 v122 v125 v131 = p
  pointwise
  rfl

/-- The row of the second result over the blocks. -/
abbrev row2 : Fin 1024 → EReal := rms (row x0 x1 x2 x3 x4 x5 x6 x7 x8 x9 x10 r) (fun k => x11 (ix2 0 k))

/-- The second result's payload. -/
abbrev P14 : FVec Ideal S256x1024 .f32 := k0_pay14 (F := Ideal) x0 (k0_pay18 x0 x1 x2 x3 x4 x5 x6 x7 x8 x9 x10 x11 x12 x13)
  (k0_pay19 x0 x1 x2 x3 x4 x5 x6 x7 x8 x9 x10 x11 x12 x13) x3 (k0_pay20 x0 x1 x2 x3 x4 x5 x6 x7 x8 x9 x10 x11 x12 x13)
  (k0_pay21 x0 x1 x2 x3 x4 x5 x6 x7 x8 x9 x10 x11 x12 x13) (k0_pay22 x0 x1 x2 x3 x4 x5 x6 x7 x8 x9 x10 x11 x12 x13)
  (View.ld x7 r0_10) (View.ld x8 r0_11) x9 x11

theorem p14 (ho : ∀ y, ∃ z : ℝ, x4 y = (z : EReal)) (d : Fin 1024) :
    P14 x0 x1 x2 x3 x4 x5 x6 x7 x8 x9 x10 x11 x12 x13 (ix2 r d) = row2 x0 x1 x2 x3 x4 x5 x6 x7 x8 x9 x10 x11 r d := by
  refine (pay14 r _ _ _ _ _ _ _ _ _ _ _ d).trans ?_
  refine congrArg (fun f => rms f _ d) (funext fun k => ?_)
  exact pay13 x0 x1 x2 x3 x4 x5 x6 x7 x8 x9 x10 x11 x12 x13 r ho k

theorem out15 (ho : ∀ y, ∃ z : ℝ, x4 y = (z : EReal)) (d : Fin 1024) :
    out0_15 (F := Ideal) x0 x1 x2 x3 x4 x5 x6 x7 x8 x9 x10 x11 x12 x13 (ix2 r d)
      = row2 x0 x1 x2 x3 x4 x5 x6 x7 x8 x9 x10 x11 r d := by
  frame_out
  exact p14 x0 x1 x2 x3 x4 x5 x6 x7 x8 x9 x10 x11 x12 x13 r ho d

/-- The router's softmax over the three products. -/
theorem pay1 (h l : FVec Ideal S256x1024 .bf16) (w u : Vec Ideal S1024x128 .bf16) (hl : ∀ k, l (ix2 r k) = (0 : EReal))
    (hu : ∀ (k : Fin 1024) (f : Fin 16), u (ix2 k ⟨f.val, by have := f.isLt; omega⟩) = (0 : EReal)) (e : Fin 16) :
    k0_pay1 (F := Ideal) h l w u w (ix2 e r)
      = aff (fun k => h (ix2 r k)) (fun k f => w (ix2 k ⟨f.val, by have := f.isLt; omega⟩)) e := by
  pointwise [k0_pay1]
  have hs : ∀ f : Fin 16, ∑ k : Fin 1024, h (ix2 r k) * w (ix2 k ⟨f.val, by have := f.isLt; omega⟩)
        + ∑ k : Fin 1024, h (ix2 r k) * u (ix2 k ⟨f.val, by have := f.isLt; omega⟩)
        + ∑ k : Fin 1024, l (ix2 r k) * w (ix2 k ⟨f.val, by have := f.isLt; omega⟩)
      = logit (fun k => h (ix2 r k)) fun k => w (ix2 k ⟨f.val, by have := f.isLt; omega⟩) :=
    fun f => logit_split _ _ _ _ hl fun k => hu k f
  simp only [hs]
  rfl

/-- The remainder part of the second result's payload is zero, for finite gains. -/
theorem p17 (ho : ∀ y, ∃ z : ℝ, x4 y = (z : EReal)) (hg : ∀ y, ∃ z : ℝ, x11 y = (z : EReal)) (d : Fin 1024) :
    k0_pay17 (F := Ideal) x0 (k0_pay18 x0 x1 x2 x3 x4 x5 x6 x7 x8 x9 x10 x11 x12 x13)
      (k0_pay19 x0 x1 x2 x3 x4 x5 x6 x7 x8 x9 x10 x11 x12 x13) x3 (k0_pay20 x0 x1 x2 x3 x4 x5 x6 x7 x8 x9 x10 x11 x12 x13)
      (k0_pay21 x0 x1 x2 x3 x4 x5 x6 x7 x8 x9 x10 x11 x12 x13) (k0_pay22 x0 x1 x2 x3 x4 x5 x6 x7 x8 x9 x10 x11 x12 x13)
      (View.ld x7 r0_10) (View.ld x8 r0_11) x9 x11 (ix2 r d) = (0 : EReal) := by
  have hr : ∃ z : ℝ, P14 x0 x1 x2 x3 x4 x5 x6 x7 x8 x9 x10 x11 x12 x13 (ix2 r d) = (z : EReal) := by
    rw [p14 x0 x1 x2 x3 x4 x5 x6 x7 x8 x9 x10 x11 x12 x13 r ho d]
    exact rms_real _ _ d (hg _)
  exact sub_self_real hr

theorem out16 (ho : ∀ y, ∃ z : ℝ, x4 y = (z : EReal)) (hg : ∀ y, ∃ z : ℝ, x11 y = (z : EReal))
    (hu : ∀ (k : Fin 1024) (f : Fin 16), x13 (ix2 k ⟨f.val, by have := f.isLt; omega⟩) = (0 : EReal)) (e : Fin 16) :
    out0_16 (F := Ideal) x0 x1 x2 x3 x4 x5 x6 x7 x8 x9 x10 x11 x12 x13 (ix2 e r)
      = aff (row2 x0 x1 x2 x3 x4 x5 x6 x7 x8 x9 x10 x11 r) (fun k f => x12 (ix2 k ⟨f.val, by have := f.isLt; omega⟩)) e := by
  frame_out
  refine (pay1 r _ _ _ _ (fun k => p17 x0 x1 x2 x3 x4 x5 x6 x7 x8 x9 x10 x11 x12 x13 r ho hg k) hu e).trans ?_
  refine congrArg (fun f => aff f _ e) (funext fun k => ?_)
  exact p14 x0 x1 x2 x3 x4 x5 x6 x7 x8 x9 x10 x11 x12 x13 r ho k

end Cert.MergeKernelIdeal.RefValue

end
-- ==== Proof.MergeRef.lean ====
/-
  THE MERGE CALL'S REFERENCE, row by row: each stage of the reference read at an index.
-/
module

public import proofs.«01_k».proof.Defs
public import proofs.«01_k».proof.Proof.MergeSpec
public import proofs.«01_k».proof.Proof.Gen.MergeReferenceIdeal.Read
public import Idealize.ShloMosaic.Lib.Pointwise
public import Idealize.ShloMosaic.Lib.ValueIdx

@[expose] public section

set_option maxRecDepth 16384

noncomputable section

open Idealize.ShloMosaic

namespace Cert.MergeReferenceIdeal.Rows

open Cert.MergeReferenceIdeal Cert.MergeReferenceIdeal.Read Cert.Norm Cert.MergeSpec

variable (x0 : FVec Ideal S65536x1024 .f32) (x1 x2 x3 : FVec Ideal S65536x256 .bf16) (x4 : FVec Ideal S65536x256 .f32)
  (x5 : FVec Ideal S65536x1024 .bf16) (x6 : FVec Ideal S1x1024 .f32) (x7 : FVec Ideal S1024x4096 .bf16)
  (x8 : FVec Ideal S4x256x1024 .bf16) (x9 : FVec Ideal S1024x1024 .bf16) (x10 : FVec Ideal S1x256 .f32)
  (x11 : FVec Ideal S1x1024 .f32) (x12 : FVec Ideal S1024x16 .f32) (r : Fin 65536)

/-- The first normalisation. -/
theorem stage11 (d : Fin 1024) :
    val_main_v11 (F := Ideal) x0 x6 (ix2 r d) = rms (fun k => x0 (ix2 r k)) (fun k => x6 (ix2 0 k)) d := by
  simp only [val_main_v11, val_main_v10, val_main_v9, val_main_v8, val_main_v7, val_main_v6, val_main_v5, val_main_v4, val_main_v3,
    val_main_v2, val_main_v1, val_main_v0, val_main_cst, val_main_cst_0, val_main_cst_1]
  pointwise
  rfl

/-- The last branch. -/
theorem stage31 (d : Fin 256) :
    val_main_v31 (F := Ideal) x4 x5 x10 (ix2 r d)
      = last (fun k => x4 (ix2 r k)) (fun k => x10 (ix2 0 k)) (fun k => x5 (ix2 r ⟨768 + k.val, by have := k.isLt; omega⟩)) d := by
  simp only [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_cst_2, val_main_cst_3, val_main_cst_4,
    val_main_call0_v0, val_main_call0_v1, val_main_call0_v2, val_main_call0_v3, val_main_call0_v4, val_main_call0_v5,
    val_main_call0_cst, val_main_call0_cst_0]
  pointwise
  rfl

/-- The first result from the normalised row and the last branch. -/
theorem stage79 (d : Fin 1024) :
    val_main_v79 (F := Ideal) x0 x1 x2 x3 x4 x5 x6 x7 x8 x9 x10 (ix2 r d)
      = MergeSpec.x1 (fun k => x0 (ix2 r k)) (fun k => x1 (ix2 r k)) (fun k => x2 (ix2 r k)) (fun k => x3 (ix2 r k))
          (fun k => x4 (ix2 r k)) (fun k => x5 (ix2 r ⟨768 + k.val, by have := k.isLt; omega⟩)) (fun k => x6 (ix2 0 k))
          (fun k j => x7 (ix2 k j)) (fun b k j => x8 (ix3 b k j)) (fun k j => x9 (ix2 k j)) (fun k => x10 (ix2 0 k)) d := by
  simp only [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_v32,
    val_main_cst_5, val_main_cst_6, val_main_cst_7]
  pointwise
  simp only [stage11, stage31]
  rfl

/-- The second result from the first. -/
theorem stage91 (d : Fin 1024) :
    val_main_v91 (F := Ideal) x0 x1 x2 x3 x4 x5 x6 x7 x8 x9 x10 x11 (ix2 r d)
      = rms (fun k => val_main_v79 (F := Ideal) x0 x1 x2 x3 x4 x5 x6 x7 x8 x9 x10 (ix2 r k)) (fun k => x11 (ix2 0 k)) d := by
  simp only [val_main_v91, val_main_v90, val_main_v89, val_main_v88, val_main_v87, val_main_v86, val_main_v85, val_main_v84,
    val_main_v83, val_main_v82, val_main_v81, val_main_v80, val_main_cst_8, val_main_cst_9, val_main_cst_10]
  pointwise
  rfl

theorem stage104 (d : Fin 1024) :
    val_main_v104 (F := Ideal) x0 x1 x2 x3 x4 x5 x6 x7 x8 x9 x10 x11 (ix2 r d)
      = rms (fun k => val_main_v79 (F := Ideal) x0 x1 x2 x3 x4 x5 x6 x7 x8 x9 x10 (ix2 r k)) (fun k => x11 (ix2 0 k)) d := by
  rw [← stage91]
  simp only [val_main_v104]
  pointwise

/-- The third result from the second. -/
theorem stage105 (e : Fin 16) :
    val_main_v105 (F := Ideal) x0 x1 x2 x3 x4 x5 x6 x7 x8 x9 x10 x11 x12 (ix2 e r)
      = aff (fun k => val_main_v91 (F := Ideal) x0 x1 x2 x3 x4 x5 x6 x7 x8 x9 x10 x11 (ix2 r k)) (fun k f => x12 (ix2 k f)) e := by
  simp only [val_main_v105, val_main_v103, val_main_v102, val_main_v101, val_main_v100, val_main_v99, val_main_v98, val_main_v97,
    val_main_v96, val_main_v95, val_main_v94, val_main_v93, val_main_v92, val_main_cst_11, val_main_cst_12, val_main_cst_13]
  pointwise
  simp only [max_bits]
  rfl

end Cert.MergeReferenceIdeal.Rows

end
-- ==== Proof.MergeValue.lean ====
/-
  THE MERGE CALL: the arrays its run leaves are the reference's arrays, for a finite last branch, finite gains of the second
  normalisation and finite router weights.

  Each grid point writes one tile of 256 rows of each result.
-/
module

public import proofs.«01_k».proof.Defs
public import proofs.«01_k».proof.Proof.MergeBlock
public import proofs.«01_k».proof.Proof.MergeRef
public import proofs.«01_k».proof.Proof.Finite
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.Pre_merge_finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MergeKernelIdeal.RefValue

open Cert.MergeKernelIdeal Cert.MergeKernelIdeal.Gen Cert.Norm Cert.MergeSpec
open Idealize.ShloMosaic.Pipeline (Dat)

variable (m : (ℓ : Loc nD τ sig) → Buf (Elt Ideal) ℓ) (ρ : Dev nD → PrngReg)

/-- The reference's result 0 on the kernel's argument arrays. -/
abbrev G0 (c : Dev nD) : Buf (Elt Ideal) ((c : Thread nD τ).loc main_v5_0) :=
  Cert.MergeReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))

/-- The reference's result 1 on the kernel's argument arrays. -/
abbrev G1 (c : Dev nD) : Buf (Elt Ideal) ((c : Thread nD τ).loc main_v5_1) :=
  Cert.MergeReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The reference's result 2 on the kernel's argument arrays. -/
abbrev G2 (c : Dev nD) : Buf (Elt Ideal) ((c : Thread nD τ).loc main_v5_2) :=
  Cert.MergeReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The last branch, the gains of the second normalisation and the router's weights are finite. -/
abbrev Fin' (c : Dev nD) : Prop :=
  (∀ y, ∃ x : ℝ, m ((c : Thread nD τ).loc main_arg4) y = (x : EReal)) ∧ (∀ y, ∃ x : ℝ, m ((c : Thread nD τ).loc main_arg11) y = (x : EReal))
    ∧ (∀ y, ∃ x : ℝ, m ((c : Thread nD τ).loc main_arg12) y = (x : EReal))

/-- What the precondition says. -/
theorem finite_of_pre (c : Dev nD) (h : Cert.Pre_merge_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) : Fin' m c := by
  have h0 := congrFun h ix0
  unfold Cert.Pre_merge_finite.fn at h0
  obtain ⟨hab, hc⟩ := IntOp.andi_eq_one.1 h0
  obtain ⟨ha, hb⟩ := IntOp.andi_eq_one.1 hab
  exact ⟨Cert.Finite.real_of_all _ _ (fun _ => rfl) _ _ _ _ ha, Cert.Finite.real_of_all _ _ (fun _ => rfl) _ _ _ _ hb,
    Cert.Finite.real_of_all _ _ (fun _ => rfl) _ _ _ _ hc⟩

/-- The router's weights as the call finds them: padded to 128 columns. -/
theorem router (c : Dev nD) (k : Fin 1024) (e : Fin 16) :
    (V m c main_v1 : FVec Ideal S1024x128 .bf16) (ix2 k (⟨e.val, by have := e.isLt; omega⟩ : Fin 128))
      = (m ((c : Thread nD τ).loc main_arg12) : FVec Ideal S1024x16 .f32) (ix2 k e) := by
  simp only [V, hostOps0, hostOps0_1, hostOps0_2, List.flatten_cons, List.flatten_nil, List.append_nil, List.cons_append, List.nil_append]
  after_results
  dsimp only [StableHlo.TRef.toBuf, StableHlo.TRef.ofBuf, StableHlo.TRef.of]
  simp only [cast_eq]
  pointwise

/-- The remainder of the router's weights as the call finds it: zero, for finite weights. -/
theorem router_rest (c : Dev nD) (hf : Fin' m c) (k : Fin 1024) (e : Fin 16) :
    (V m c main_v4 : FVec Ideal S1024x128 .bf16) (ix2 k (⟨e.val, by have := e.isLt; omega⟩ : Fin 128)) = (0 : EReal) := by
  simp only [V, hostOps0, hostOps0_1, hostOps0_2, List.flatten_cons, List.flatten_nil, List.append_nil, List.cons_append, List.nil_append]
  after_results
  dsimp only [StableHlo.TRef.toBuf, StableHlo.TRef.ofBuf, StableHlo.TRef.of]
  simp only [cast_eq]
  pointwise
  exact sub_self_real (hf.2.2 _)

/-- Where each window's block lies at a grid point: row tile `t` of the row arrays, the weights whole. -/
theorem idx : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 3] ∧ win0_6.index t = ![0, 0] ∧ win0_7.index t = ![0, 0]
    ∧ win0_8.index t = ![0, 0, 0] ∧ win0_9.index t = ![0, 0] ∧ win0_10.index t = ![0, 0] ∧ win0_11.index t = ![0, 0]
    ∧ win0_12.index t = ![0, 0] ∧ win0_13.index t = ![0, 0] ∧ win0_14.index t = ![t.val, 0] ∧ win0_15.index t = ![t.val, 0]
    ∧ win0_16.index t = ![0, t.val] := by decide +kernel

/-- The row of the first result in the whole arrays. -/
abbrev big (c : Dev nD) (r : Fin 65536) : Fin 1024 → EReal :=
  MergeSpec.x1 (fun k => m ((c : Thread nD τ).loc main_arg0) (ix2 r k)) (fun k => m ((c : Thread nD τ).loc main_arg1) (ix2 r k))
    (fun k => m ((c : Thread nD τ).loc main_arg2) (ix2 r k)) (fun k => m ((c : Thread nD τ).loc main_arg3) (ix2 r k))
    (fun k => m ((c : Thread nD τ).loc main_arg4) (ix2 r k))
    (fun k => m ((c : Thread nD τ).loc main_arg5) (ix2 r ⟨768 + k.val, by have := k.isLt; omega⟩))
    (fun k => m ((c : Thread nD τ).loc main_arg6) (ix2 0 k)) (fun k j => m ((c : Thread nD τ).loc main_arg7) (ix2 k j))
    (fun b k j => m ((c : Thread nD τ).loc main_arg8) (ix3 b k j)) (fun k j => m ((c : Thread nD τ).loc main_arg9) (ix2 k j))
    (fun k => m ((c : Thread nD τ).loc main_arg10) (ix2 0 k))

/-- Two rows of the first result over equal reads. -/
theorem row_congr {x x' : Fin 1024 → EReal} {a a' b b' d d' o o' s s' : Fin 256 → EReal} {g g' : Fin 1024 → EReal}
    {w w' : Fin 1024 → Fin 4096 → EReal} {u u' : Fin 4 → Fin 256 → Fin 1024 → EReal} {v v' : Fin 1024 → Fin 1024 → EReal}
    {n n' : Fin 256 → EReal} (h0 : ∀ k, x k = x' k) (h1 : ∀ k, a k = a' k) (h2 : ∀ k, b k = b' k) (h3 : ∀ k, d k = d' k)
    (h4 : ∀ k, o k = o' k) (h5 : ∀ k, s k = s' k) (h6 : ∀ k, g k = g' k) (h7 : ∀ k j, w k j = w' k j)
    (h8 : ∀ i k j, u i k j = u' i k j) (h9 : ∀ k j, v k j = v' k j) (h10 : ∀ k, n k = n' k) :
    MergeSpec.x1 x a b d o s g w u v n = MergeSpec.x1 x' a' b' d' o' s' g' w' u' v' n' := by
  obtain rfl : x = x' := funext h0
  obtain rfl : a = a' := funext h1
  obtain rfl : b = b' := funext h2
  obtain rfl : d = d' := funext h3
  obtain rfl : o = o' := funext h4
  obtain rfl : s = s' := funext h5
  obtain rfl : g = g' := funext h6
  obtain rfl : w = w' := funext fun k => funext (h7 k)
  obtain rfl : u = u' := funext fun i => funext fun k => funext (h8 i k)
  obtain rfl : v = v' := funext fun k => funext (h9 k)
  obtain rfl : n = n' := funext h10
  rfl

/-- A grid point's row of the first result is the whole arrays' row. -/
theorem row_big (c : Dev nD) (t : Fin cfg0.N) (r : Fin 256) (R : Fin 65536) (hR : R.val = t.val * 256 + r.val) :
    row (iblk m c 0 t) (iblk m c 1 t) (iblk m c 2 t) (iblk m c 3 t) (iblk m c 4 t) (iblk m c 5 t) (iblk m c 6 t)
      (iblk m c 7 t) (iblk m c 8 t) (iblk m c 9 t) (iblk m c 10 t) r = big m c R := by
  obtain ⟨R, hlt⟩ := R
  simp only at hR
  subst hR
  refine row_congr (fun k => ?_) (fun k => ?_) (fun k => ?_) (fun k => ?_) (fun k => ?_) (fun k => ?_) (fun k => ?_)
    (fun k j => ?_) (fun i k j => ?_) (fun k j => ?_) (fun k => ?_)
  all_goals blk_point [iblk, V, idx t]

/-- The last branch's block is finite. -/
theorem real4 (c : Dev nD) (hf : Fin' m c) (t : Fin cfg0.N) (y : S256x256.Idx) : ∃ z : ℝ, iblk m c 4 t y = (z : EReal) := by
  have h : iblk m c 4 t y = m ((c : Thread nD τ).loc main_arg4) (((cfg0.win 4).blk t).view.emb y) :=
    congrFun (V_main_arg4 m c) (((cfg0.win 4).blk t).view.emb y)
  rw [h]
  exact hf.1 _

/-- The gains' block is finite. -/
theorem real11 (c : Dev nD) (hf : Fin' m c) (t : Fin cfg0.N) (y : S1x1024.Idx) : ∃ z : ℝ, iblk m c 11 t y = (z : EReal) := by
  have h : iblk m c 11 t y = m ((c : Thread nD τ).loc main_arg11) (((cfg0.win 11).blk t).view.emb y) :=
    congrFun (V_main_arg11 m c) (((cfg0.win 11).blk t).view.emb y)
  rw [h]
  exact hf.2.1 _

/-- The router's block is the padded router. -/
theorem blk12 (c : Dev nD) (t : Fin cfg0.N) (k : Fin 1024) (f : Fin 16) :
    iblk m c 12 t (ix2 k (⟨f.val, by have := f.isLt; omega⟩ : Fin 128)) = m ((c : Thread nD τ).loc main_arg12) (ix2 k f) := by
  refine Eq.trans ?_ (router m c k f)
  refine congrArg (V m c main_v1) (funext fun a => Fin.ext ?_)
  have h : win0_12.index t = ![0, 0] := (idx t).2.2.2.2.2.2.2.2.2.2.2.2.1
  fin_cases a
  · show win0_12.index t 0 * 1024 + 1 * k.val = k.val
    rw [congrFun h 0]; simp
  · show win0_12.index t 1 * 128 + 1 * f.val = f.val
    rw [congrFun h 1]; simp

/-- The remainder's block is zero in the router's columns. -/
theorem blk13 (c : Dev nD) (hf : Fin' m c) (t : Fin cfg0.N) (k : Fin 1024) (f : Fin 16) :
    iblk m c 13 t (ix2 k (⟨f.val, by have := f.isLt; omega⟩ : Fin 128)) = (0 : EReal) := by
  refine Eq.trans ?_ (router_rest m c hf k f)
  refine congrArg (V m c main_v4) (funext fun a => Fin.ext ?_)
  have h : win0_13.index t = ![0, 0] := (idx t).2.2.2.2.2.2.2.2.2.2.2.2.2.1
  fin_cases a
  · show win0_13.index t 0 * 1024 + 1 * k.val = k.val
    rw [congrFun h 0]; simp
  · show win0_13.index t 1 * 128 + 1 * f.val = f.val
    rw [congrFun h 1]; simp

/-- The gains' block. -/
theorem blk11 (c : Dev nD) (t : Fin cfg0.N) (k : Fin 1024) :
    iblk m c 11 t (ix2 0 k) = m ((c : Thread nD τ).loc main_arg11) (ix2 0 k) := by
  refine Eq.trans ?_ (congrFun (V_main_arg11 m c) (ix2 0 k))
  refine congrArg (V m c main_arg11) (funext fun a => Fin.ext ?_)
  have h : win0_11.index t = ![0, 0] := (idx t).2.2.2.2.2.2.2.2.2.2.2.1
  fin_cases a
  · show win0_11.index t 0 * 1 + 1 * 0 = 0
    rw [congrFun h 0]; simp
  · show win0_11.index t 1 * 1024 + 1 * k.val = k.val
    rw [congrFun h 1]; simp

theorem points (t : Fin cfg0.N) : t.val < 256 := lt_of_lt_of_eq t.isLt (by decide +kernel)

/-- A grid point's row in the whole arrays. -/
abbrev at' (t : Fin cfg0.N) (r : Fin 256) : Fin 65536 := ⟨t.val * 256 + r.val, by have := points t; have := r.isLt; omega⟩

theorem emb14 (t : Fin cfg0.N) (r : Fin 256) (d : Fin 1024) : (win0_14.blk t).view.emb (ix2 r d) = ix2 (at' t r) d := by
  have h : win0_14.index t = ![t.val, 0] := (idx t).2.2.2.2.2.2.2.2.2.2.2.2.2.2.1
  refine funext fun a => Fin.ext ?_
  fin_cases a
  · show win0_14.index t 0 * 256 + 1 * r.val = t.val * 256 + r.val
    rw [congrFun h 0]; simp
  · show win0_14.index t 1 * 1024 + 1 * d.val = d.val
    rw [congrFun h 1]; simp

theorem emb15 (t : Fin cfg0.N) (r : Fin 256) (d : Fin 1024) : (win0_15.blk t).view.emb (ix2 r d) = ix2 (at' t r) d := by
  have h : win0_15.index t = ![t.val, 0] := (idx t).2.2.2.2.2.2.2.2.2.2.2.2.2.2.2.1
  refine funext fun a => Fin.ext ?_
  fin_cases a
  · show win0_15.index t 0 * 256 + 1 * r.val = t.val * 256 + r.val
    rw [congrFun h 0]; simp
  · show win0_15.index t 1 * 1024 + 1 * d.val = d.val
    rw [congrFun h 1]; simp

theorem emb16 (t : Fin cfg0.N) (e : Fin 16) (r : Fin 256) : (win0_16.blk t).view.emb (ix2 e r) = ix2 e (at' t r) := by
  have h : win0_16.index t = ![0, t.val] := (idx t).2.2.2.2.2.2.2.2.2.2.2.2.2.2.2.2
  refine funext fun a => Fin.ext ?_
  fin_cases a
  · show win0_16.index t 0 * 16 + 1 * e.val = e.val
    rw [congrFun h 0]; simp
  · show win0_16.index t 1 * 256 + 1 * r.val = t.val * 256 + r.val
    rw [congrFun h 1]; simp

/-- The first result array after the run. -/
theorem final14 (c : Dev nD) (hf : Fin' m c) : (dats m 0 c).arrAt 14 cfg0.N = G0 m c := by
  refine (dats m 0 c).arrAt_eq_of_covers 14 _ (by decide +kernel) fun t hft y => ?_
  blk_simp
  rw [after0_14]
  obtain ⟨r, d, rfl⟩ : ∃ (r : Fin 256) (d : Fin 1024), y = ix2 r d := ⟨y 0, y 1, by funext a; fin_cases a <;> rfl⟩
  refine (out14 _ _ _ _ _ _ _ _ _ _ _ _ _ _ r (real4 m c hf t) d).trans ?_
  rw [emb14 t r d, row_big m c t r (at' t r) rfl]
  exact (Cert.MergeReferenceIdeal.Rows.stage79 _ _ _ _ _ _ _ _ _ _ _ (at' t r) d).symm

/-- The second result's row in the whole arrays. -/
theorem row2_big (c : Dev nD) (t : Fin cfg0.N) (r : Fin 256) :
    row2 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) r
      = rms (big m c (at' t r)) (fun k => m ((c : Thread nD τ).loc main_arg11) (ix2 0 k)) := by
  unfold row2
  rw [row_big m c t r (at' t r) rfl]
  exact congrArg (rms _) (funext fun k => blk11 m c t k)

/-- The second result array after the run. -/
theorem final15 (c : Dev nD) (hf : Fin' m c) : (dats m 0 c).arrAt 15 cfg0.N = G1 m c := by
  refine (dats m 0 c).arrAt_eq_of_covers 15 _ (by decide +kernel) fun t hft y => ?_
  blk_simp
  rw [after0_15]
  obtain ⟨r, d, rfl⟩ : ∃ (r : Fin 256) (d : Fin 1024), y = ix2 r d := ⟨y 0, y 1, by funext a; fin_cases a <;> rfl⟩
  refine (out15 _ _ _ _ _ _ _ _ _ _ _ _ _ _ r (real4 m c hf t) d).trans ?_
  rw [emb15 t r d, row2_big m c t r]
  refine Eq.trans ?_ (Cert.MergeReferenceIdeal.Rows.stage104 _ _ _ _ _ _ _ _ _ _ _ _ (at' t r) d).symm
  exact congrArg (fun f => rms f _ d) (funext fun k => (Cert.MergeReferenceIdeal.Rows.stage79 _ _ _ _ _ _ _ _ _ _ _ (at' t r) k).symm)

/-- The third result array after the run. -/
theorem final16 (c : Dev nD) (hf : Fin' m c) : (dats m 0 c).arrAt 16 cfg0.N = G2 m c := by
  refine (dats m 0 c).arrAt_eq_of_covers 16 _ (by decide +kernel) fun t hft y => ?_
  blk_simp
  rw [after0_16]
  obtain ⟨e, r, rfl⟩ : ∃ (e : Fin 16) (r : Fin 256), y = ix2 e r := ⟨y 0, y 1, by funext a; fin_cases a <;> rfl⟩
  refine (out16 _ _ _ _ _ _ _ _ _ _ _ _ _ _ r (real4 m c hf t) (real11 m c hf t) (blk13 m c hf t) e).trans ?_
  rw [emb16 t e r, row2_big m c t r]
  refine Eq.trans ?_ (Cert.MergeReferenceIdeal.Rows.stage105 _ _ _ _ _ _ _ _ _ _ _ _ _ (at' t r) e).symm
  refine congrArg₂ (fun f w => aff f w e) (funext fun k => ?_) (funext fun k => funext fun f => blk12 m c t k f)
  refine Eq.trans ?_ (Cert.MergeReferenceIdeal.Rows.stage91 _ _ _ _ _ _ _ _ _ _ _ _ (at' t r) k).symm
  exact congrArg (fun f => rms f _ k) (funext fun k => (Cert.MergeReferenceIdeal.Rows.stage79 _ _ _ _ _ _ _ _ _ _ _ (at' t r) k).symm)

/-- The run: the result arrays at the reference's values, the arguments unchanged. -/
theorem run (hf : ∀ c, Fin' m c) : θ_run defs (onTc (τ := τ) (main (F := Ideal))) ⟨m, fun _ => 0, ρ⟩ fun r => ∀ c : Dev nD,
      r.2.mem ((c : Thread nD τ).loc main_v5_0) = G0 m c
      ∧ r.2.mem ((c : Thread nD τ).loc main_v5_1) = G1 m c
      ∧ r.2.mem ((c : Thread nD τ).loc main_v5_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final14 m c (hf c)), (h c).2.1.trans (final15 m c (hf c)),
    (h c).2.2.1.trans (final16 m c (hf c)), (h c).2.2.2⟩) (Value.run_blocks m ρ)

end Cert.MergeKernelIdeal.RefValue

end
-- ==== Proof.ProjSpec.lean ====
/-
  THE PROJECTIONS' NINE RESULTS, row by row.

  A row of each result depends on one row of the residual stream, on one row of each rotary table and on the weights: the
  normalised row times a weight matrix, for queries and keys normalised again in groups of 64 lanes and rotated.
-/
module

public import proofs.«01_k».proof.Defs
public import proofs.«01_k».proof.Proof.NormMath

@[expose] public section

set_option maxRecDepth 16384

noncomputable section

open Idealize.ShloMosaic
open scoped BigOperators

namespace Cert.ProjSpec

open Cert.Norm

/-- A row times a matrix. -/
def dot {n : ℕ} (h : Fin 1024 → EReal) (w : Fin 1024 → Fin n → EReal) (j : Fin n) : EReal := ∑ k, h k * w k j

/-- The lane that the rotation pairs with lane `d`: the other half of its pair of groups of `h` lanes. -/
def swap {n : ℕ} (h : ℕ) (d : Fin n) : Fin n :=
  ⟨(if d.val / h % 2 = 0 then d.val + h else d.val - h) % n, Nat.mod_lt _ d.pos⟩

/-- A row rotated, the sign of the rotation in the sine's table; the tables have 128 lanes. -/
def rope {n : ℕ} (h : ℕ) (y : Fin n → EReal) (c s : Fin 128 → EReal) (d : Fin n) : EReal :=
  y d * c ⟨d.val % 128, Nat.mod_lt _ (by norm_num)⟩ + y (swap h d) * s ⟨d.val % 128, Nat.mod_lt _ (by norm_num)⟩

/-- One row of 128 lanes normalised in groups of 64. -/
def grp128 (o g : Fin 128 → EReal) (c : Fin 128) : EReal :=
  o c * Ideal.rsqrt (Ideal.div (∑ e : Fin 64, o ⟨c.val / 64 * 64 + e.val, by have := e.isLt; have := c.isLt; omega⟩
      * o ⟨c.val / 64 * 64 + e.val, by have := e.isLt; have := c.isLt; omega⟩) (Ideal.ofBits FTy.f32 1115684864#32)
    + Ideal.ofBits FTy.f32 897988541#32) * g c

/-- The lanes of a row from `o`. -/
def part {n m : ℕ} (o : ℕ) (h : o + m ≤ n) (u : Fin n → EReal) (d : Fin m) : EReal := u ⟨o + d.val, by have := d.isLt; omega⟩

/-- The first half of a row gated by the logistic function of the second half. -/
def gate (u : Fin 512 → EReal) (d : Fin 256) : EReal :=
  part 0 (by norm_num) u d * Ideal.div 1 (1 + Ideal.exp (-part 256 (by norm_num) u d))

/-- A row with its first 256 lanes scaled. -/
def scaled (u : Fin 1024 → EReal) (d : Fin 1024) : EReal := if d.val < 256 then u d * Ideal.ofBits FTy.f32 1040187392#32 else u d

/-- The scale of the queries. -/
def c8 : EReal := Ideal.ofBits FTy.f32 1040187392#32

end Cert.ProjSpec

end
-- ==== Proof.ProjPay.lean ====
/-
  THE PROJECTIONS' PAYLOADS, row by row: each stored value's steps read at an index.
-/
module

public import proofs.«01_k».proof.Defs
public import proofs.«01_k».proof.Proof.ProjSpec
public import proofs.«01_k».proof.Proof.Gen.ProjKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjKernelIdeal.RefValue

open Cert.ProjKernelIdeal Cert.ProjKernelIdeal.Gen Cert.Norm Cert.ProjSpec

/-- The lanes of one group of 64, summed over 128 lanes. -/
theorem group_sum128 (d : Fin 128) (f : Fin 128 → EReal) :
    ∑ x : Fin 128, (if x.val / 64 = d.val / 64 then f x else 0)
      = ∑ e : Fin 64, f ⟨d.val / 64 * 64 + e.val, by have := e.isLt; have := d.isLt; omega⟩ := by
  rw [← Finset.sum_filter]
  symm
  refine Finset.sum_nbij (fun e => ⟨d.val / 64 * 64 + e.val, by have := e.isLt; have := d.isLt; omega⟩) ?_ ?_ ?_ ?_
  · intro e _
    have := e.isLt
    simp only [Finset.mem_filter, Finset.mem_univ, true_and]
    omega
  · intro a _ b _ h
    have := congrArg Fin.val h
    simp only at this
    exact Fin.ext (by omega)
  · intro x hx
    simp only [Finset.coe_filter, Finset.mem_univ, true_and, Set.mem_setOf_eq] at hx
    exact ⟨⟨x.val % 64, Nat.mod_lt _ (by norm_num)⟩, by simp, Fin.ext (by simp only; omega)⟩
  · intro e _
    rfl

/-- The group of a lane out of 128, as the kernel computes it. -/
theorem lane_group128 (x : Fin 128) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) :=
  lane_group ⟨x.val, by have := x.isLt; omega⟩

/-- The group of a lane, the sign of the divisor computed beforehand. -/
theorem lane_group_one (x : Fin 256) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          1#32)
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) :=
  lane_group x

/-- The same out of 128 lanes. -/
theorem lane_group128_one (x : Fin 128) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          1#32)
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) :=
  lane_group128 x

/-- Two lanes' groups compared, out of 128. -/
theorem sel_group128 (x d : Fin 128) (a b : EReal) :
    Scalar.select (IntOp.cmpi CmpIPredicate.eq (BitVec.ofNat 32 (x.val / 64)) (BitVec.ofNat 32 (d.val / 64))) a b
      = if x.val / 64 = d.val / 64 then a else b :=
  sel_group ⟨x.val, by have := x.isLt; omega⟩ ⟨d.val, by have := d.isLt; omega⟩ a b

theorem bit16 : ∀ d : Fin 256, IntOp.cmpi CmpIPredicate.ne (IntOp.andi (BitVec.ofNat 32 d.val) 16#32) 0#32
    = if d.val / 16 % 2 = 0 then 0#1 else 1#1 := by decide +kernel

theorem bit32 : ∀ d : Fin 256, IntOp.cmpi CmpIPredicate.ne (IntOp.andi (BitVec.ofNat 32 d.val) 32#32) 0#32
    = if d.val / 32 % 2 = 0 then 0#1 else 1#1 := by decide +kernel

/-- The two rotated copies selected by a bit of the lane: the paired lane. -/
theorem sel_swap16_256 (Y : Fin 256 → EReal) (d : Fin 256) :
    Scalar.select (IntOp.cmpi CmpIPredicate.ne (IntOp.andi (BitVec.ofNat 32 d.val) 16#32) 0#32)
      (Y ⟨(d.val + 256 - 16) % 256, Nat.mod_lt _ (by norm_num)⟩) (Y ⟨(d.val + 256 - 240) % 256, Nat.mod_lt _ (by norm_num)⟩)
      = Y (swap 16 d) := by
  have hd := d.isLt
  have hb := bit16 ⟨d.val, by omega⟩
  simp only at hb
  rw [hb]
  by_cases e : d.val / 16 % 2 = 0
  · rw [if_pos e]
    exact congrArg Y (Fin.ext (by simp only [swap]; rw [if_pos e]; omega))
  · rw [if_neg e]
    exact congrArg Y (Fin.ext (by simp only [swap]; rw [if_neg e]; omega))

/-- The two rotated copies selected by a bit of the lane: the paired lane. -/
theorem sel_swap16_128 (Y : Fin 128 → EReal) (d : Fin 128) :
    Scalar.select (IntOp.cmpi CmpIPredicate.ne (IntOp.andi (BitVec.ofNat 32 d.val) 16#32) 0#32)
      (Y ⟨(d.val + 128 - 16) % 128, Nat.mod_lt _ (by norm_num)⟩) (Y ⟨(d.val + 128 - 112) % 128, Nat.mod_lt _ (by norm_num)⟩)
      = Y (swap 16 d) := by
  have hd := d.isLt
  have hb := bit16 ⟨d.val, by omega⟩
  simp only at hb
  rw [hb]
  by_cases e : d.val / 16 % 2 = 0
  · rw [if_pos e]
    exact congrArg Y (Fin.ext (by simp only [swap]; rw [if_pos e]; omega))
  · rw [if_neg e]
    exact congrArg Y (Fin.ext (by simp only [swap]; rw [if_neg e]; omega))

/-- The two rotated copies selected by a bit of the lane: the paired lane. -/
theorem sel_swap32_256 (Y : Fin 256 → EReal) (d : Fin 256) :
    Scalar.select (IntOp.cmpi CmpIPredicate.ne (IntOp.andi (BitVec.ofNat 32 d.val) 32#32) 0#32)
      (Y ⟨(d.val + 256 - 32) % 256, Nat.mod_lt _ (by norm_num)⟩) (Y ⟨(d.val + 256 - 224) % 256, Nat.mod_lt _ (by norm_num)⟩)
      = Y (swap 32 d) := by
  have hd := d.isLt
  have hb := bit32 ⟨d.val, by omega⟩
  simp only at hb
  rw [hb]
  by_cases e : d.val / 32 % 2 = 0
  · rw [if_pos e]
    exact congrArg Y (Fin.ext (by simp only [swap]; rw [if_pos e]; omega))
  · rw [if_neg e]
    exact congrArg Y (Fin.ext (by simp only [swap]; rw [if_neg e]; omega))

/-- The two rotated copies selected by a bit of the lane: the paired lane. -/
theorem sel_swap32_128 (Y : Fin 128 → EReal) (d : Fin 128) :
    Scalar.select (IntOp.cmpi CmpIPredicate.ne (IntOp.andi (BitVec.ofNat 32 d.val) 32#32) 0#32)
      (Y ⟨(d.val + 128 - 32) % 128, Nat.mod_lt _ (by norm_num)⟩) (Y ⟨(d.val + 128 - 96) % 128, Nat.mod_lt _ (by norm_num)⟩)
      = Y (swap 32 d) := by
  have hd := d.isLt
  have hb := bit32 ⟨d.val, by omega⟩
  simp only at hb
  rw [hb]
  by_cases e : d.val / 32 % 2 = 0
  · rw [if_pos e]
    exact congrArg Y (Fin.ext (by simp only [swap]; rw [if_pos e]; omega))
  · rw [if_neg e]
    exact congrArg Y (Fin.ext (by simp only [swap]; rw [if_neg e]; omega))

/-- A table of 128 lanes laid twice side by side. -/
theorem tab (c : Vec Ideal S512x128 .f32) (r : Fin 512) (d : Fin 256) :
    (if h : d.val < 128 then c (ix2 r (⟨d.val, h⟩ : Fin 128)) else c (ix2 r (⟨d.val - 128, by have := d.isLt; omega⟩ : Fin 128)))
      = c (ix2 r (⟨d.val % 128, Nat.mod_lt _ (by norm_num)⟩ : Fin 128)) := by
  have hd := d.isLt
  split
  · exact congrArg (fun k => c (ix2 r k)) (Fin.ext (by simp only; omega))
  · exact congrArg (fun k => c (ix2 r k)) (Fin.ext (by simp only; omega))

theorem mod128 (d : Fin 128) : (⟨d.val % 128, Nat.mod_lt _ (by norm_num)⟩ : Fin 128) = d :=
  Fin.ext (by have := d.isLt; simp only; omega)

section
variable (v0 : Vec Ideal S512x1024 .f32) (v1 : Vec Ideal S1x1024 .f32) (w : Vec Ideal S1024x512 .bf16) (r : Fin 512)

/-- The normalised row of the block. -/
abbrev hrow : Fin 1024 → EReal := rms (fun k => v0 (ix2 r k)) (fun k => v1 (ix2 0 k))

/-- The row's product with the first weights. -/
abbrev drow : Fin 512 → EReal := dot (hrow v0 v1 r) (fun k j => w (ix2 k j))

theorem pay4 (d : Fin 1024) : k0_pay4 (F := Ideal) v0 v1 (ix2 r d) = hrow v0 v1 r d := by
  pointwise [k0_pay4]
  rfl

theorem pay5 (d : Fin 512) : k0_pay5 (F := Ideal) v0 v1 w (ix2 r d) = drow v0 v1 w r d := by
  unfold k0_pay5
  pointwise
  simp only [pay4]
  rfl

theorem pay6 (d : Fin 256) : k0_pay6 (F := Ideal) v0 v1 w (ix2 r d) = part 0 (by norm_num) (drow v0 v1 w r) d := by
  unfold k0_pay6
  pointwise
  rw [pay5]
  exact congrArg _ (Fin.ext (by simp only [Nat.zero_add]))

theorem pay7 (d : Fin 256) : k0_pay7 (F := Ideal) v0 v1 w (ix2 r d)
    = part 0 (by norm_num) (drow v0 v1 w r) d * part 0 (by norm_num) (drow v0 v1 w r) d := by
  unfold k0_pay7
  pointwise
  rw [pay6]

theorem pay8 (d : Fin 256) : k0_pay8 (F := Ideal) v0 v1 w (ix2 r d)
    = part 0 (by norm_num) (drow v0 v1 w r) d * part 0 (by norm_num) (drow v0 v1 w r) d := by
  unfold k0_pay8
  pointwise
  rw [pay7]

theorem pay9 (hw : ∀ j, ∃ z : ℝ, drow v0 v1 w r j = (z : EReal)) (d : Fin 256) :
    k0_pay9 (F := Ideal) v0 v1 w (ix2 r d) = (0 : EReal) := by
  unfold k0_pay9
  pointwise
  rw [pay8, pay7]
  exact sub_self_real (sq_real (hw _))
end

/-- The mean of each group of 64 lanes out of 256, the second summand zero. -/
theorem pay12 (hi lo : FVec Ideal S512x256 .bf16) (r : Fin 512) (d : Fin 256) (hz : ∀ x : Fin 256, lo (ix2 r x) = (0 : EReal)) :
    k0_pay12 (F := Ideal) hi lo (iota .tc S256x256 32 [0] iota_S256x256_d0_w32) 64#32 k0_pay10 k0_pay11 1#32 (ix2 r d)
      = Ideal.div (∑ e : Fin 64, hi (ix2 r (⟨d.val / 64 * 64 + e.val, by have := e.isLt; have := d.isLt; omega⟩ : Fin 256)))
        (Ideal.ofBits FTy.f32 1115684864#32) := by
  pointwise [k0_pay12, k0_pay10, k0_pay11]
  simp only [lane_group, lane_group_one, sel_group]
  simp only [hz, ite_self, Finset.sum_const_zero, add_zero]
  rw [group_sum d fun x => hi (ix2 r x), div64]

/-- The mean of each group of 64 lanes out of 128, the second summand zero. -/
theorem pay20 (hi lo : FVec Ideal S512x128 .bf16) (r : Fin 512) (d : Fin 128) (hz : ∀ x : Fin 128, lo (ix2 r x) = (0 : EReal)) :
    k0_pay20 (F := Ideal) hi lo (iota .tc S128x128 32 [0] iota_S128x128_d0_w32) 64#32 k0_pay18 k0_pay19 1#32 (ix2 r d)
      = Ideal.div (∑ e : Fin 64, hi (ix2 r (⟨d.val / 64 * 64 + e.val, by have := e.isLt; have := d.isLt; omega⟩ : Fin 128)))
        (Ideal.ofBits FTy.f32 1115684864#32) := by
  pointwise [k0_pay20, k0_pay18, k0_pay19]
  simp only [lane_group128, lane_group128_one, sel_group128]
  simp only [hz, ite_self, Finset.sum_const_zero, add_zero]
  rw [group_sum128 d fun x => hi (ix2 r x), div64]

theorem pay13 (c s : Vec Ideal S512x128 .f32) (q n : FVec Ideal S512x256 .f32) (e : Ideal .f32) (g : Vec Ideal S1x256 .f32)
    (r : Fin 512) (d : Fin 256) (Y : Fin 256 → EReal)
    (hq : ∀ d : Fin 256, q (ix2 r d) * Ideal.rsqrt (n (ix2 r d) + e) * g (ix2 0 d) = Y d) :
    k0_pay13 (F := Ideal) c s q n e g (ix2 r d) = rope 16 Y (fun k => c (ix2 r k)) (fun k => s (ix2 r k)) d * c8 := by
  pointwise [k0_pay13]
  simp only [hq, sel_swap16_256]
  exact congrArg₂ HMul.hMul (congrArg₂ HAdd.hAdd (congrArg₂ HMul.hMul rfl (tab c r d)) (congrArg₂ HMul.hMul rfl (tab s r d))) rfl

theorem pay21 (c s : Vec Ideal S512x128 .f32) (q n : FVec Ideal S512x128 .f32) (e : Ideal .f32) (g : Vec Ideal S1x128 .f32)
    (r : Fin 512) (d : Fin 128) (Y : Fin 128 → EReal)
    (hq : ∀ d : Fin 128, q (ix2 r d) * Ideal.rsqrt (n (ix2 r d) + e) * g (ix2 0 d) = Y d) :
    k0_pay21 (F := Ideal) c s q n e g (ix2 r d) = rope 16 Y (fun k => c (ix2 r k)) (fun k => s (ix2 r k)) d := by
  pointwise [k0_pay21]
  simp only [hq, sel_swap16_128]
  unfold rope
  simp only [mod128]

theorem pay14 (u : FVec Ideal S512x512 .f32) (r : Fin 512) (d : Fin 128) :
    k0_pay14 (F := Ideal) u (ix2 r d) = part 256 (by norm_num) (fun j => u (ix2 r j)) d := by
  pointwise [k0_pay14]
  rfl

theorem pay16 (u : FVec Ideal S512x512 .f32) (r : Fin 512) (d : Fin 128) :
    k0_pay16 (F := Ideal) u (ix2 r d)
      = part 256 (by norm_num) (fun j => u (ix2 r j)) d * part 256 (by norm_num) (fun j => u (ix2 r j)) d := by
  pointwise [k0_pay16, k0_pay15, k0_pay14]
  rfl

theorem pay17 (u : FVec Ideal S512x512 .f32) (r : Fin 512) (d : Fin 128) (hu : ∀ j : Fin 512, ∃ z : ℝ, u (ix2 r j) = (z : EReal)) :
    k0_pay17 (F := Ideal) u (ix2 r d) = (0 : EReal) := by
  pointwise [k0_pay17, k0_pay16, k0_pay15, k0_pay14]
  exact sub_self_real (sq_real (hu _))

theorem pay22 (u : FVec Ideal S512x512 .f32) (r : Fin 512) (d : Fin 128) :
    k0_pay22 (F := Ideal) u (ix2 r d) = part 384 (by norm_num) (fun j => u (ix2 r j)) d := by
  pointwise [k0_pay22]
  rfl

theorem pay27 (u : FVec Ideal S512x512 .f32) (r : Fin 512) (d : Fin 128) :
    k0_pay27 (F := Ideal) u (ix2 r d) = part 384 (by norm_num) (fun j => u (ix2 r j)) d := by
  pointwise [k0_pay27]
  rfl

theorem pay25 (u : FVec Ideal S512x512 .f32) (c s : Vec Ideal S512x128 .f32) (r : Fin 512) (d : Fin 256) :
    k0_pay25 (F := Ideal) u c s (ix2 r d)
      = rope 32 (part 0 (by norm_num) (fun j => u (ix2 r j))) (fun k => c (ix2 r k)) (fun k => s (ix2 r k)) d * c8 := by
  pointwise [k0_pay25]
  have h0 : ∀ (k : ℕ) (h : k < 256), u (ix2 r (⟨k, by omega⟩ : Fin 512)) = part 0 (by norm_num) (fun j => u (ix2 r j)) (⟨k, h⟩ : Fin 256) :=
    fun k h => congrArg (fun j => u (ix2 r j)) (Fin.ext (by simp only [Nat.zero_add]))
  exact congrArg₂ HMul.hMul (congrArg₂ HAdd.hAdd (congrArg₂ HMul.hMul (h0 _ d.isLt) (tab c r d))
    (congrArg₂ HMul.hMul ((congrArg₂ (Scalar.select _) (h0 _ (Nat.mod_lt _ (by norm_num))) (h0 _ (Nat.mod_lt _ (by norm_num)))).trans
      (sel_swap32_256 (part 0 (by norm_num) (fun j => u (ix2 r j))) d)) (tab s r d))) rfl

theorem pay26 (u : FVec Ideal S512x512 .f32) (c s : Vec Ideal S512x128 .f32) (r : Fin 512) (d : Fin 128) :
    k0_pay26 (F := Ideal) u c s (ix2 r d)
      = rope 32 (part 256 (by norm_num) (fun j => u (ix2 r j))) (fun k => c (ix2 r k)) (fun k => s (ix2 r k)) d := by
  pointwise [k0_pay26]
  exact congrArg₂ HAdd.hAdd (congrArg₂ HMul.hMul rfl (congrArg (fun k => c (ix2 r k)) (mod128 d).symm))
    (congrArg₂ HMul.hMul (sel_swap32_128 (part 256 (by norm_num) (fun j => u (ix2 r j))) d)
      (congrArg (fun k => s (ix2 r k)) (mod128 d).symm))

section
variable (h : FVec Ideal S512x1024 .bf16) (r : Fin 512)

theorem pay23 (w : Vec Ideal S1024x512 .bf16) (d : Fin 256) :
    k0_pay23 (F := Ideal) h w (ix2 r d) = gate (dot (fun k => h (ix2 r k)) (fun k j => w (ix2 k j))) d := by
  pointwise [k0_pay23]
  simp only [Ideal.logistic]
  refine congrArg₂ HMul.hMul (congrArg (dot (fun k => h (ix2 r k)) (fun k (j : Fin 512) => w (ix2 k j))) (Fin.ext ?_)) rfl
  simp only [Nat.zero_add]

theorem pay24 (w : Vec Ideal S1024x512 .bf16) (d : Fin 512) :
    k0_pay24 (F := Ideal) h w (ix2 r d) = dot (fun k => h (ix2 r k)) (fun k j => w (ix2 k j)) d := by
  pointwise [k0_pay24]
  rfl

theorem pay28 (w : Vec Ideal S1024x1024 .bf16) (d : Fin 1024) :
    k0_pay28 (F := Ideal) h w (ix2 r d) = dot (fun k => h (ix2 r k)) (fun k j => w (ix2 k j)) d := by
  pointwise [k0_pay28]
  rfl

theorem pay29 (w : Vec Ideal S1024x1024 .bf16) (d : Fin 256) :
    k0_pay29 (F := Ideal) h w (ix2 r d)
      = dot (fun k => h (ix2 r k)) (fun k j => w (ix2 k j)) (⟨d.val, by have := d.isLt; omega⟩ : Fin 1024) := by
  unfold k0_pay29
  pointwise
  rw [pay28]

theorem pay3 (w : Vec Ideal S1024x128 .bf16) (d : Fin 128) :
    k0_pay3 (F := Ideal) h w (ix2 r d) = dot (fun k => h (ix2 r k)) (fun k j => w (ix2 k j)) d := by
  pointwise [k0_pay3]
  rfl
end

theorem pay1 (v : FVec Ideal S512x256 .f32) (e : Ideal .f32) (r : Fin 512) (d : Fin 256) :
    k0_pay1 (F := Ideal) v e (ix2 r d) = v (ix2 r d) * e := by
  pointwise [k0_pay1]

theorem pay2 (v : FVec Ideal S512x1024 .f32) (r : Fin 512) (d : Fin 768) :
    k0_pay2 (F := Ideal) v (ix2 r d) = v (ix2 r (⟨256 + d.val, by have := d.isLt; omega⟩ : Fin 1024)) := by
  pointwise [k0_pay2]

end Cert.ProjKernelIdeal.RefValue

end
-- ==== Proof.ProjBlock.lean ====
/-
  THE PROJECTIONS' BLOCKS, row by row: what one grid point stores, read at an index, over the point's input blocks.
-/
module

public import proofs.«01_k».proof.Defs
public import proofs.«01_k».proof.Proof.ProjPay
public import proofs.«01_k».proof.Proof.Gen.ProjKernelIdeal.Value
public import Idealize.ShloMosaic.Lib.Pointwise
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.ProjKernelIdeal.RefValue

open Cert.ProjKernelIdeal Cert.ProjKernelIdeal.Gen Cert.Norm Cert.ProjSpec

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x128 .bf16) (harg16 : arg16.IsWhole) (arg17 : Memref sig .tc .vmem S512x256 .bf16) (harg17 : arg17.IsWhole) (arg18 : Memref sig .tc .vmem S512x256 .bf16) (harg18 : arg18.IsWhole) (arg19 : Memref sig .tc .vmem S512x128 .bf16) (harg19 : arg19.IsWhole) (arg20 : Memref sig .tc .vmem S512x128 .bf16) (harg20 : arg20.IsWhole) (arg21 : Memref sig .tc .vmem S512x1024 .bf16) (harg21 : arg21.IsWhole) (arg22 : Memref sig .tc .vmem S512x128 .bf16) (harg22 : arg22.IsWhole)
  (x0 : Vec Ideal S512x1024 .f32) (x1 : Vec Ideal S1x1024 .f32) (x2 : Vec Ideal S1024x512 .bf16) (x3 : Vec Ideal S1024x512 .bf16) (x4 : Vec Ideal S1024x512 .bf16) (x5 : Vec Ideal S1024x1024 .bf16) (x6 : Vec Ideal S1024x128 .bf16) (x7 : Vec Ideal S1x256 .f32) (x8 : Vec Ideal S1x128 .f32) (x9 : Vec Ideal S512x128 .f32) (x10 : Vec Ideal S512x128 .f32) (x11 : Vec Ideal S512x128 .f32) (x12 : Vec Ideal S512x128 .f32)

theorem L1 : View.readAt (Elt Ideal) arg1.view (Rect.unit ![0, 0] ![512, 1024] inb_S512x1024_S512x1024_0_0).toLoadRect (harg1.unread x0) = x0 :=
  (View.readAt_full arg1.view _ _).trans (harg1.read_unread _)

theorem L2 : View.readAt (Elt Ideal) arg2.view (Rect.unit ![0, 0] ![1, 1024] inb_S1x1024_S1x1024_0_0).toLoadRect (harg2.unread x1) = x1 :=
  (View.readAt_full arg2.view _ _).trans (harg2.read_unread _)

theorem L3 : View.readAt (Elt Ideal) arg3.view (Rect.unit ![0, 0] ![1024, 512] inb_S1024x512_S1024x512_0_0).toLoadRect (harg3.unread x2) = x2 :=
  (View.readAt_full arg3.view _ _).trans (harg3.read_unread _)

theorem L4 : View.readAt (Elt Ideal) arg4.view (Rect.unit ![0, 0] ![1024, 512] inb_S1024x512_S1024x512_0_0).toLoadRect (harg4.unread x3) = x3 :=
  (View.readAt_full arg4.view _ _).trans (harg4.read_unread _)

theorem L5 : View.readAt (Elt Ideal) arg5.view (Rect.unit ![0, 0] ![1024, 512] inb_S1024x512_S1024x512_0_0).toLoadRect (harg5.unread x4) = x4 :=
  (View.readAt_full arg5.view _ _).trans (harg5.read_unread _)

theorem L6 : View.readAt (Elt Ideal) arg6.view (Rect.unit ![0, 0] ![1024, 1024] inb_S1024x1024_S1024x1024_0_0).toLoadRect (harg6.unread x5) = x5 :=
  (View.readAt_full arg6.view _ _).trans (harg6.read_unread _)

theorem L7 : View.readAt (Elt Ideal) arg7.view (Rect.unit ![0, 0] ![1024, 128] inb_S1024x128_S1024x128_0_0).toLoadRect (harg7.unread x6) = x6 :=
  (View.readAt_full arg7.view _ _).trans (harg7.read_unread _)

theorem L8 : View.readAt (Elt Ideal) arg8.view (Rect.unit ![0, 0] ![1, 256] inb_S1x256_S1x256_0_0).toLoadRect (harg8.unread x7) = x7 :=
  (View.readAt_full arg8.view _ _).trans (harg8.read_unread _)

theorem L9 : View.readAt (Elt Ideal) arg9.view (Rect.unit ![0, 0] ![1, 128] inb_S1x128_S1x128_0_0).toLoadRect (harg9.unread x8) = x8 :=
  (View.readAt_full arg9.view _ _).trans (harg9.read_unread _)

theorem L10 : View.readAt (Elt Ideal) arg10.view (Rect.unit ![0, 0] ![512, 128] inb_S512x128_S512x128_0_0).toLoadRect (harg10.unread x9) = x9 :=
  (View.readAt_full arg10.view _ _).trans (harg10.read_unread _)

theorem L11 : View.readAt (Elt Ideal) arg11.view (Rect.unit ![0, 0] ![512, 128] inb_S512x128_S512x128_0_0).toLoadRect (harg11.unread x10) = x10 :=
  (View.readAt_full arg11.view _ _).trans (harg11.read_unread _)

theorem L12 : View.readAt (Elt Ideal) arg12.view (Rect.unit ![0, 0] ![512, 128] inb_S512x128_S512x128_0_0).toLoadRect (harg12.unread x11) = x11 :=
  (View.readAt_full arg12.view _ _).trans (harg12.read_unread _)

theorem L13 : View.readAt (Elt Ideal) arg13.view (Rect.unit ![0, 0] ![512, 128] inb_S512x128_S512x128_0_0).toLoadRect (harg13.unread x12) = x12 :=
  (View.readAt_full arg13.view _ _).trans (harg13.read_unread _)

theorem w0 : kernelRun0_A.sl.r (F := Ideal) c arg1 harg1 arg2 harg2 x0 x1 = k0_pay4 x0 x1 := by
  unfold kernelRun0_A.sl.r
  rw [L1, L2]

theorem w1 : kernelRun0_A.sl.r_1 (F := Ideal) c arg1 harg1 arg2 harg2 arg3 harg3 x0 x1 x2 = k0_pay5 x0 x1 x2 := by
  unfold kernelRun0_A.sl.r_1
  rw [L1, L2, L3]

theorem o13 (r : Fin 512) (d : Fin 256) (hw : ∀ j, ∃ z : ℝ, drow x0 x1 x2 r j = (z : EReal)) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = rope 16 (grp (part 0 (by norm_num) (drow x0 x1 x2 r)) (fun k => x7 (ix2 0 k))) (fun k => x9 (ix2 r k)) (fun k => x10 (ix2 r k)) d * c8 := by
  unfold out0_A_13 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [kernelRun0_A.sl.r_2, kernelRun0_A.sl.r_3, kernelRun0_A.sl.r_4, kernelRun0_A.sl.r_5, kernelRun0_A.sl.r_6, kernelRun0_A.sl.r_7, kernelRun0_A.sl.v25, kernelRun0_A.sl.cst_28, w0, w1, L1, L2, L3, L4, L5, L6, L7, L8, L9, L10, L11, L12, L13]
  refine pay13 _ _ _ _ _ _ _ _ _ fun d => ?_
  rw [pay12 _ _ _ _ fun x => pay9 x0 x1 x2 r hw x, pay6]
  simp only [pay8]
  rfl

theorem o14 (r : Fin 512) (d : Fin 128) (hw : ∀ j, ∃ z : ℝ, drow x0 x1 x2 r j = (z : EReal)) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = rope 16 (grp128 (part 256 (by norm_num) (drow x0 x1 x2 r)) (fun k => x8 (ix2 0 k))) (fun k => x9 (ix2 r k)) (fun k => x10 (ix2 r k)) d := by
  unfold out0_A_14 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [kernelRun0_A.sl.r_2, kernelRun0_A.sl.r_3, kernelRun0_A.sl.r_8, kernelRun0_A.sl.r_9, kernelRun0_A.sl.r_10, kernelRun0_A.sl.r_11, kernelRun0_A.sl.v115, kernelRun0_A.sl.cst_28, w0, w1, L1, L2, L3, L4, L5, L6, L7, L8, L9, L10, L11, L12, L13]
  have hu : ∀ j : Fin 512, ∃ z : ℝ, k0_pay5 (F := Ideal) x0 x1 x2 (ix2 r j) = (z : EReal) := fun j => by
    rw [pay5]
    exact hw j
  refine pay21 _ _ _ _ _ _ _ _ _ fun d => ?_
  rw [pay20 _ _ _ _ fun x => pay17 _ r x hu, pay14]
  simp only [pay16, pay5]
  rfl

theorem o15 (r : Fin 512) (d : Fin 128) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = part 384 (by norm_num) (drow x0 x1 x2 r) d := by
  unfold out0_A_15 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [w0, w1, L1, L2, L3, L4, L5, L6, L7, L8, L9, L10, L11, L12, L13]
  rw [pay22]
  simp only [pay5]

theorem o16 (r : Fin 512) (d : Fin 256) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = gate (dot (hrow x0 x1 r) (fun k (j : Fin 512) => x3 (ix2 k j))) d := by
  unfold out0_A_16 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [w0, w1, L1, L2, L3, L4, L5, L6, L7, L8, L9, L10, L11, L12, L13]
  rw [pay23]
  simp only [pay4]

theorem o17 (r : Fin 512) (d : Fin 256) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = rope 32 (part 0 (by norm_num) (dot (hrow x0 x1 r) (fun k (j : Fin 512) => x4 (ix2 k j)))) (fun k => x11 (ix2 r k)) (fun k => x12 (ix2 r k)) d * c8 := by
  unfold out0_A_17 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [kernelRun0_A.sl.r_12, kernelRun0_A.sl.r_13, kernelRun0_A.sl.r_14, w0, w1, L1, L2, L3, L4, L5, L6, L7, L8, L9, L10, L11, L12, L13]
  rw [pay25]
  simp only [pay24, pay4]

theorem o18 (r : Fin 512) (d : Fin 128) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = rope 32 (part 256 (by norm_num) (dot (hrow x0 x1 r) (fun k (j : Fin 512) => x4 (ix2 k j)))) (fun k => x11 (ix2 r k)) (fun k => x12 (ix2 r k)) d := by
  unfold out0_A_18 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [kernelRun0_A.sl.r_12, kernelRun0_A.sl.r_13, kernelRun0_A.sl.r_14, w0, w1, L1, L2, L3, L4, L5, L6, L7, L8, L9, L10, L11, L12, L13]
  rw [pay26]
  simp only [pay24, pay4]

theorem o19 (r : Fin 512) (d : Fin 128) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = part 384 (by norm_num) (dot (hrow x0 x1 r) (fun k (j : Fin 512) => x4 (ix2 k j))) d := by
  unfold out0_A_19 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [kernelRun0_A.sl.r_12, w0, w1, L1, L2, L3, L4, L5, L6, L7, L8, L9, L10, L11, L12, L13]
  rw [pay27]
  simp only [pay24, pay4]

theorem o21 (r : Fin 512) (d : Fin 128) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = (dot (hrow x0 x1 r) (fun k (j : Fin 128) => x6 (ix2 k j))) d := by
  unfold out0_A_21 kernelRun0_A
  rw [View.read_writes_junk_eq_canon]
  dsimp only
  generalize hy : (ix2 r d) = y
  canon_tiles x h
  subst hy
  have e0 : r.val = (x 0).val := h0
  have e1 : d.val = (x 1).val := h1
  obtain rfl : x = ix2 r d := by
    funext a
    fin_cases a
    · exact Fin.ext e0.symm
    · exact Fin.ext e1.symm
  simp only [w0, w1, L1, L2, L3, L4, L5, L6, L7, L8, L9, L10, L11, L12, L13]
  rw [pay3]
  simp only [pay4]

theorem o20 (r : Fin 512) (d : Fin 1024) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 (ix2 r d)
    = scaled (dot (hrow x0 x1 r) (fun k (j : Fin 1024) => x5 (ix2 k j))) d := by
  unfold out0_A_20 kernelRun0_A
  rw [View.read_writes_junk_eq_canon]
  dsimp only
  generalize hy : (ix2 r d) = y
  canon_tiles x h using (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 y)
  · subst hy
    have e0 : r.val = (x 0).val := h0
    have e1 : d.val = 256 + (x 1).val := h1
    obtain ⟨e, rfl⟩ : ∃ e : Fin 768, x = ix2 r e := by
      refine ⟨x 1, ?_⟩
      funext a
      fin_cases a
      · exact Fin.ext e0.symm
      · rfl
    simp only [kernelRun0_A.sl.r_15, w0, L1, L2, L3, L4, L5, L6, L7, L8, L9, L10, L11, L12, L13]
    rw [pay2, pay28]
    simp only [pay4]
    have e1' : d.val = 256 + e.val := e1
    have hd : ∀ p, (⟨256 + e.val, p⟩ : Fin 1024) = d := fun p => Fin.ext e1'.symm
    rw [hd]
    unfold scaled
    rw [if_neg (by omega)]
  · subst hy
    have e0 : r.val = (x 0).val := h0
    have e1 : d.val = (x 1).val := h1
    obtain ⟨e, rfl⟩ : ∃ e : Fin 256, x = ix2 r e := by
      refine ⟨x 1, ?_⟩
      funext a
      fin_cases a
      · exact Fin.ext e0.symm
      · rfl
    simp only [kernelRun0_A.sl.r_16, kernelRun0_A.sl.cst_92, w0, L1, L2, L3, L4, L5, L6, L7, L8, L9, L10, L11, L12, L13]
    rw [pay1, pay29]
    simp only [pay4]
    have e1' : d.val = e.val := e1
    have hd : ∀ p, (⟨e.val, p⟩ : Fin 1024) = d := fun p => Fin.ext e1'.symm
    rw [hd]
    unfold scaled
    rw [if_pos (by have := e.isLt; omega)]
    rfl

end Cert.ProjKernelIdeal.RefValue

end
-- ==== Proof.ProjRef.lean ====
/-
  THE PROJECTIONS' REFERENCE, row by row: each stage of the reference read at an index.
-/
module

public import proofs.«01_k».proof.Defs
public import proofs.«01_k».proof.Proof.ProjSpec
public import proofs.«01_k».proof.Proof.Gen.ProjReferenceIdeal.Read
public import Idealize.ShloMosaic.Lib.Pointwise
public import Idealize.ShloMosaic.Lib.ValueIdx

@[expose] public section

set_option maxRecDepth 16384

noncomputable section

open Idealize.ShloMosaic

namespace Cert.ProjReferenceIdeal.Rows

open Cert.ProjReferenceIdeal Cert.ProjReferenceIdeal.Read Cert.Norm Cert.ProjSpec

variable (x0 : FVec Ideal S65536x1024 .f32) (x1 : FVec Ideal S1x1024 .f32) (x2 x3 x4 : FVec Ideal S1024x512 .bf16)
  (x5 : FVec Ideal S1024x1024 .bf16) (x6 : FVec Ideal S1024x128 .bf16) (x7 : FVec Ideal S1x256 .f32) (x8 : FVec Ideal S1x128 .f32)
  (x9 x10 x11 x12 : FVec Ideal S4096x128 .f32) (r : Fin 65536)

/-- The normalised row. -/
abbrev H : Fin 1024 → EReal := rms (fun k => x0 (ix2 r k)) (fun k => x1 (ix2 0 k))

/-- A token's position in its sequence. -/
abbrev pos : Fin 4096 := ⟨r.val % 4096, Nat.mod_lt _ (by norm_num)⟩

theorem stage11 (d : Fin 1024) : val_main_v11 (F := Ideal) x0 x1 (ix2 r d) = H x0 x1 r d := by
  simp only [val_main_v11, val_main_v10, val_main_v9, val_main_v8, val_main_v7, val_main_v6, val_main_v5, val_main_v4, val_main_v3,
    val_main_v2, val_main_v1, val_main_v0, val_main_cst, val_main_cst_0, val_main_cst_1]
  pointwise
  rfl

theorem stage13 (d : Fin 512) :
    val_main_v13 (F := Ideal) x0 x1 x2 (ix2 r d) = dot (H x0 x1 r) (fun k j => x2 (ix2 k j)) d := by
  simp only [val_main_v13, val_main_v12]
  pointwise
  simp only [stage11]
  rfl

theorem stage72 (d : Fin 512) :
    val_main_v72 (F := Ideal) x0 x1 x3 (ix2 r d) = dot (H x0 x1 r) (fun k j => x3 (ix2 k j)) d := by
  simp only [val_main_v72, val_main_v71]
  pointwise
  simp only [stage11]
  rfl

theorem stage76 (d : Fin 512) :
    val_main_v76 (F := Ideal) x0 x1 x4 (ix2 r d) = dot (H x0 x1 r) (fun k j => x4 (ix2 k j)) d := by
  simp only [val_main_v76, val_main_v75]
  pointwise
  simp only [stage11]
  rfl

theorem stage107 (d : Fin 1024) :
    val_main_v107 (F := Ideal) x0 x1 x5 (ix2 r d) = dot (H x0 x1 r) (fun k j => x5 (ix2 k j)) d := by
  simp only [val_main_v107, val_main_v106]
  pointwise
  simp only [stage11]
  rfl

theorem stage134 (d : Fin 128) :
    val_main_v134 (F := Ideal) x0 x1 x6 (ix2 r d) = dot (H x0 x1 r) (fun k j => x6 (ix2 k j)) d := by
  simp only [val_main_v134, val_main_v111, val_main_v110]
  pointwise
  simp only [stage11]
  rfl

/-- The queries normalised in groups, before the rotation. -/
abbrev Q : Fin 256 → EReal :=
  grp (part 0 (by norm_num) (dot (H x0 x1 r) (fun k (j : Fin 512) => x2 (ix2 k j)))) (fun k => x7 (ix2 0 k))

/-- The keys normalised in groups, before the rotation. -/
abbrev K : Fin 128 → EReal :=
  grp128 (part 256 (by norm_num) (dot (H x0 x1 r) (fun k (j : Fin 512) => x2 (ix2 k j)))) (fun k => x8 (ix2 0 k))

theorem stage31 (d : Fin 256) (b : Fin 16) (i : Fin 4096) (p q : Fin 2) (e : Fin 64) (hr : b.val * 4096 + i.val = r.val)
    (hd : p.val * 128 + q.val * 64 + e.val = d.val) :
    val_main_v31 (F := Ideal) x0 x1 x2 x7 (ix5 b i p q e) = Q x0 x1 x2 x7 r d := by
  simp only [val_main_v31, val_main_v30, val_main_v29, val_main_v28, val_main_v27, val_main_v26, val_main_v25, val_main_v24,
    val_main_v23, val_main_v22, val_main_v21, val_main_v20, val_main_v19, val_main_v18, val_main_v17,
    val_main_v14, val_main_cst_2, val_main_cst_3, val_main_cst_4]
  pointwise
  simp only [stage13]
  have he := e.isLt
  have h1 : ∀ h, (⟨b.val * 4096 + i.val, h⟩ : Fin 65536) = r := fun h => Fin.ext hr
  have h2 : ∀ h, (⟨p.val * 128 + q.val * 64 + e.val, h⟩ : Fin 512) = ⟨0 + d.val, by have := d.isLt; omega⟩ :=
    fun h => Fin.ext (by simp only; omega)
  have h3 : ∀ (x : Fin 64) h, (⟨p.val * 128 + q.val * 64 + x.val, h⟩ : Fin 512)
      = ⟨0 + (d.val / 64 * 64 + x.val), by have := d.isLt; have := x.isLt; omega⟩ :=
    fun x h => Fin.ext (by simp only; omega)
  have h4 : ∀ h, (⟨p.val * 128 + q.val * 64 + e.val, h⟩ : Fin 256) = d := fun h => Fin.ext hd
  simp only [h1, h2, h3, h4]
  rfl

set_option maxHeartbeats 2000000 in
theorem stage126 (d : Fin 256) : val_main_v126 (F := Ideal) x0 x1 x2 x7 x9 x10 (ix2 r d)
    = rope 16 (Q x0 x1 x2 x7 r) (fun k => x9 (ix2 (pos r) k)) (fun k => x10 (ix2 (pos r) k)) d * c8 := by
  simp only [val_main_v126, val_main_v113, val_main_v112, val_main_cst_8, val_main_v43, val_main_v42, val_main_v41, val_main_v40,
    val_main_v39, val_main_v38, val_main_v37, val_main_v36, val_main_v35, val_main_v34, val_main_v33, val_main_v32]
  pointwise
  have hd := d.isLt
  have h1 : ∀ h, (⟨d.val / 32 % 4 * 32 + d.val / 16 % 2 * 16 + d.val % 16, h⟩ : Fin 128) = ⟨d.val % 128, by omega⟩ :=
    fun h => Fin.ext (by simp only; omega)
  unfold rope c8
  rw [h1, stage31 x0 x1 x2 x7 r d _ _ _ _ _ (by simp only; omega) (by simp only; omega)]
  split
  · rw [stage31 x0 x1 x2 x7 r (swap 16 d) _ _ _ _ _ (by simp only; omega) (by simp only [swap]; split <;> omega)]
  · rw [stage31 x0 x1 x2 x7 r (swap 16 d) _ _ _ _ _ (by simp only; omega) (by simp only [swap]; split <;> omega)]

theorem stage58 (d : Fin 128) (b : Fin 16) (i : Fin 4096) (q : Fin 2) (e : Fin 64) (hr : b.val * 4096 + i.val = r.val)
    (hd : q.val * 64 + e.val = d.val) :
    val_main_v58 (F := Ideal) x0 x1 x2 x8 (ix5 b i 0 q e) = K x0 x1 x2 x8 r d := by
  simp only [val_main_v58, val_main_v57, val_main_v56, val_main_v55, val_main_v54, val_main_v53, val_main_v52, val_main_v51,
    val_main_v50, val_main_v49, val_main_v48, val_main_v47, val_main_v46, val_main_v45, val_main_v44,
    val_main_v15, val_main_cst_5, val_main_cst_6, val_main_cst_7]
  pointwise
  simp only [stage13]
  have he := e.isLt
  have h1 : ∀ h, (⟨b.val * 4096 + i.val, h⟩ : Fin 65536) = r := fun h => Fin.ext hr
  have h2 : ∀ h, (⟨256 + (q.val * 64 + e.val), h⟩ : Fin 512) = ⟨256 + d.val, by have := d.isLt; omega⟩ :=
    fun h => Fin.ext (by simp only; omega)
  have h3 : ∀ (x : Fin 64) h, (⟨256 + (q.val * 64 + x.val), h⟩ : Fin 512)
      = ⟨256 + (d.val / 64 * 64 + x.val), by have := d.isLt; have := x.isLt; omega⟩ :=
    fun x h => Fin.ext (by simp only; omega)
  have h4 : ∀ h, (⟨q.val * 64 + e.val, h⟩ : Fin 128) = d := fun h => Fin.ext hd
  simp only [h1, h2, h3, h4]
  rfl

set_option maxHeartbeats 2000000 in
theorem stage127 (d : Fin 128) : val_main_v127 (F := Ideal) x0 x1 x2 x8 x9 x10 (ix2 r d)
    = rope 16 (K x0 x1 x2 x8 r) (fun k => x9 (ix2 (pos r) k)) (fun k => x10 (ix2 (pos r) k)) d := by
  simp only [val_main_v127, val_main_v70, val_main_v69, val_main_v68, val_main_v67, val_main_v66, val_main_v65, val_main_v64,
    val_main_v63, val_main_v62, val_main_v61, val_main_v60, val_main_v59]
  pointwise
  have hd := d.isLt
  have h1 : (⟨d.val % 128, by omega⟩ : Fin 128) = d := Fin.ext (by simp only; omega)
  unfold rope
  rw [h1, stage58 x0 x1 x2 x8 r d _ _ _ _ (by simp only; omega) (by simp only; omega)]
  split
  · rw [stage58 x0 x1 x2 x8 r (swap 16 d) _ _ _ _ (by simp only; omega) (by simp only [swap]; split <;> omega)]
  · rw [stage58 x0 x1 x2 x8 r (swap 16 d) _ _ _ _ (by simp only; omega) (by simp only [swap]; split <;> omega)]

theorem stage128 (d : Fin 128) : val_main_v128 (F := Ideal) x0 x1 x2 (ix2 r d)
    = part 384 (by norm_num) (dot (H x0 x1 r) (fun k (j : Fin 512) => x2 (ix2 k j))) d := by
  simp only [val_main_v128, val_main_v16]
  pointwise
  rw [stage13]
  rfl

theorem stage129 (d : Fin 256) : val_main_v129 (F := Ideal) x0 x1 x3 (ix2 r d)
    = gate (dot (H x0 x1 r) (fun k (j : Fin 512) => x3 (ix2 k j))) d := by
  simp only [val_main_v129, val_main_v120, val_main_v119, val_main_v118, val_main_v117, val_main_v116, val_main_v115,
    val_main_v114, val_main_v74, val_main_v73, val_main_cst_9, val_main_cst_10]
  pointwise
  simp only [stage72]
  have h : (⟨d.val, by have := d.isLt; omega⟩ : Fin 512) = ⟨0 + d.val, by have := d.isLt; omega⟩ := Fin.ext (by simp)
  rw [h]
  rfl

set_option maxHeartbeats 2000000 in
theorem stage130 (d : Fin 256) : val_main_v130 (F := Ideal) x0 x1 x4 x11 x12 (ix2 r d)
    = rope 32 (part 0 (by norm_num) (dot (H x0 x1 r) (fun k (j : Fin 512) => x4 (ix2 k j)))) (fun k => x11 (ix2 (pos r) k))
        (fun k => x12 (ix2 (pos r) k)) d * c8 := by
  simp only [val_main_v130, val_main_v122, val_main_v121, val_main_cst_11, val_main_v92, val_main_v91, val_main_v90, val_main_v89,
    val_main_v88, val_main_v87, val_main_v86, val_main_v85, val_main_v84, val_main_v83, val_main_v82, val_main_v81,
    val_main_v80, val_main_v77]
  pointwise
  simp only [stage76]
  have hd := d.isLt
  have h1 : ∀ h, (⟨d.val / 64 % 2 * 64 + d.val / 32 % 2 * 32 + d.val % 32, h⟩ : Fin 128) = ⟨d.val % 128, by omega⟩ :=
    fun h => Fin.ext (by simp only; omega)
  have hf : ∀ d : Fin 256, (d.val / 32 % 2 < 1 → d.val / 128 * 128 + d.val / 64 % 2 * 64 + (1 + d.val / 32 % 2) * 32 + d.val % 32 = 0 + (swap 32 d).val)
      ∧ (¬ d.val / 32 % 2 < 1 → d.val / 128 * 128 + d.val / 64 % 2 * 64 + (d.val / 32 % 2 - 1) * 32 + d.val % 32 = 0 + (swap 32 d).val) := by
    decide +kernel
  unfold rope c8 part
  refine congrArg₂ HMul.hMul (congrArg₂ HAdd.hAdd (congrArg₂ HMul.hMul (congrArg (dot (H x0 x1 r) (fun k (j : Fin 512) => x4 (ix2 k j))) (Fin.ext ?_))
      (congrArg (fun k => x11 (ix2 (pos r) k)) (h1 _)))
    (congrArg₂ HMul.hMul ?_ (congrArg (fun k => x12 (ix2 (pos r) k)) (h1 _)))) rfl
  · simp only [Nat.zero_add]
  · split
    · next h => exact congrArg (dot (H x0 x1 r) (fun k (j : Fin 512) => x4 (ix2 k j))) (Fin.ext ((hf d).1 h))
    · next h => exact congrArg (dot (H x0 x1 r) (fun k (j : Fin 512) => x4 (ix2 k j))) (Fin.ext ((hf d).2 h))

set_option maxHeartbeats 2000000 in
theorem stage131 (d : Fin 128) : val_main_v131 (F := Ideal) x0 x1 x4 x11 x12 (ix2 r d)
    = rope 32 (part 256 (by norm_num) (dot (H x0 x1 r) (fun k (j : Fin 512) => x4 (ix2 k j)))) (fun k => x11 (ix2 (pos r) k))
        (fun k => x12 (ix2 (pos r) k)) d := by
  simp only [val_main_v131, val_main_v105, val_main_v104, val_main_v103, val_main_v102, val_main_v101, val_main_v100, val_main_v99,
    val_main_v98, val_main_v97, val_main_v96, val_main_v95, val_main_v94, val_main_v93, val_main_v78]
  pointwise
  simp only [stage76]
  have hd := d.isLt
  have h1 : (⟨d.val % 128, by omega⟩ : Fin 128) = d := Fin.ext (by simp only; omega)
  unfold rope part
  generalize dot (H x0 x1 r) (fun k (j : Fin 512) => x4 (ix2 k j)) = u
  rw [h1]
  split
  · congr 3
    exact Fin.ext (by simp only [swap]; split <;> omega)
  · congr 3
    exact Fin.ext (by simp only [swap]; split <;> omega)

theorem stage132 (d : Fin 128) : val_main_v132 (F := Ideal) x0 x1 x4 (ix2 r d)
    = part 384 (by norm_num) (dot (H x0 x1 r) (fun k (j : Fin 512) => x4 (ix2 k j))) d := by
  simp only [val_main_v132, val_main_v79]
  pointwise
  rw [stage76]
  rfl

theorem stage133 (d : Fin 1024) : val_main_v133 (F := Ideal) x0 x1 x5 (ix2 r d)
    = scaled (dot (H x0 x1 r) (fun k (j : Fin 1024) => x5 (ix2 k j))) d := by
  simp only [val_main_v133, val_main_v125, val_main_v124, val_main_v123, val_main_v109, val_main_v108, val_main_cst_12]
  pointwise
  simp only [stage107]
  unfold scaled
  split
  · rfl
  · have h : ∀ h, (⟨256 + (d.val - 256), h⟩ : Fin 1024) = d := fun h => Fin.ext (by simp only; omega)
    rw [h]

end Cert.ProjReferenceIdeal.Rows
end
-- ==== Proof.ProjTiles.lean ====
/-
  THE PROJECTION CALL'S TILES: the blocks a grid point reads, as rows of the whole arrays.

  Each grid point writes one tile of 512 rows of each result.
-/
module

public import proofs.«01_k».proof.Defs
public import proofs.«01_k».proof.Proof.ProjBlock
public import proofs.«01_k».proof.Proof.ProjRef
public import proofs.«01_k».proof.Proof.Finite
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.Pre_proj_finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjKernelIdeal.RefValue

open Cert.ProjKernelIdeal Cert.ProjKernelIdeal.Gen Cert.Norm Cert.ProjSpec
open Idealize.ShloMosaic.Pipeline (Dat)

variable (m : (ℓ : Loc nD τ sig) → Buf (Elt Ideal) ℓ) (ρ : Dev nD → PrngReg)

/-- The reference's result 0 on the kernel's argument arrays. -/
abbrev G0 (c : Dev nD) : Buf (Elt Ideal) ((c : Thread nD τ).loc main_v0_0) :=
  Cert.ProjReferenceIdeal.Read.val_main_v126 (F := Ideal) (m ((c : Thread nD τ).loc main_arg0)) (m ((c : Thread nD τ).loc main_arg1)) (m ((c : Thread nD τ).loc main_arg2)) (m ((c : Thread nD τ).loc main_arg7)) (m ((c : Thread nD τ).loc main_arg9)) (m ((c : Thread nD τ).loc main_arg10))

/-- The reference's result 1 on the kernel's argument arrays. -/
abbrev G1 (c : Dev nD) : Buf (Elt Ideal) ((c : Thread nD τ).loc main_v0_1) :=
  Cert.ProjReferenceIdeal.Read.val_main_v127 (F := Ideal) (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10))

/-- The reference's result 2 on the kernel's argument arrays. -/
abbrev G2 (c : Dev nD) : Buf (Elt Ideal) ((c : Thread nD τ).loc main_v0_2) :=
  Cert.ProjReferenceIdeal.Read.val_main_v128 (F := Ideal) (m ((c : Thread nD τ).loc main_arg0)) (m ((c : Thread nD τ).loc main_arg1)) (m ((c : Thread nD τ).loc main_arg2))

/-- The reference's result 3 on the kernel's argument arrays. -/
abbrev G3 (c : Dev nD) : Buf (Elt Ideal) ((c : Thread nD τ).loc main_v0_3) :=
  Cert.ProjReferenceIdeal.Read.val_main_v129 (F := Ideal) (m ((c : Thread nD τ).loc main_arg0)) (m ((c : Thread nD τ).loc main_arg1)) (m ((c : Thread nD τ).loc main_arg3))

/-- The reference's result 4 on the kernel's argument arrays. -/
abbrev G4 (c : Dev nD) : Buf (Elt Ideal) ((c : Thread nD τ).loc main_v0_4) :=
  Cert.ProjReferenceIdeal.Read.val_main_v130 (F := Ideal) (m ((c : Thread nD τ).loc main_arg0)) (m ((c : Thread nD τ).loc main_arg1)) (m ((c : Thread nD τ).loc main_arg4)) (m ((c : Thread nD τ).loc main_arg11)) (m ((c : Thread nD τ).loc main_arg12))

/-- The reference's result 5 on the kernel's argument arrays. -/
abbrev G5 (c : Dev nD) : Buf (Elt Ideal) ((c : Thread nD τ).loc main_v0_5) :=
  Cert.ProjReferenceIdeal.Read.val_main_v131 (F := Ideal) (m ((c : Thread nD τ).loc main_arg0)) (m ((c : Thread nD τ).loc main_arg1)) (m ((c : Thread nD τ).loc main_arg4)) (m ((c : Thread nD τ).loc main_arg11)) (m ((c : Thread nD τ).loc main_arg12))

/-- The reference's result 6 on the kernel's argument arrays. -/
abbrev G6 (c : Dev nD) : Buf (Elt Ideal) ((c : Thread nD τ).loc main_v0_6) :=
  Cert.ProjReferenceIdeal.Read.val_main_v132 (F := Ideal) (m ((c : Thread nD τ).loc main_arg0)) (m ((c : Thread nD τ).loc main_arg1)) (m ((c : Thread nD τ).loc main_arg4))

/-- The reference's result 7 on the kernel's argument arrays. -/
abbrev G7 (c : Dev nD) : Buf (Elt Ideal) ((c : Thread nD τ).loc main_v0_7) :=
  Cert.ProjReferenceIdeal.Read.val_main_v133 (F := Ideal) (m ((c : Thread nD τ).loc main_arg0)) (m ((c : Thread nD τ).loc main_arg1)) (m ((c : Thread nD τ).loc main_arg5))

/-- The reference's result 8 on the kernel's argument arrays. -/
abbrev G8 (c : Dev nD) : Buf (Elt Ideal) ((c : Thread nD τ).loc main_v0_8) :=
  Cert.ProjReferenceIdeal.Read.val_main_v134 (F := Ideal) (m ((c : Thread nD τ).loc main_arg0)) (m ((c : Thread nD τ).loc main_arg1)) (m ((c : Thread nD τ).loc main_arg6))

/-- The gains of the normalisation and the first weights are finite. -/
abbrev Fin' (c : Dev nD) : Prop :=
  (∀ y, ∃ x : ℝ, m ((c : Thread nD τ).loc main_arg1) y = (x : EReal)) ∧ (∀ y, ∃ x : ℝ, m ((c : Thread nD τ).loc main_arg2) y = (x : EReal))

/-- What the precondition says. -/
theorem finite_of_pre (c : Dev nD) (h : Cert.Pre_proj_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) : Fin' m c := by
  have h0 := congrFun h ix0
  unfold Cert.Pre_proj_finite.fn at h0
  obtain ⟨ha, hb⟩ := IntOp.andi_eq_one.1 h0
  exact ⟨Cert.Finite.real_of_all _ _ (fun _ => rfl) _ _ _ _ ha, Cert.Finite.real_of_all _ _ (fun _ => rfl) _ _ _ _ hb⟩

/-- Where each window's block lies at a grid point: row tile `t` of the row arrays, the tables' tile repeating every 8 points, the
    weights whole. -/
theorem idx : ∀ t : Fin grid0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val % 8, 0]
    ∧ win0_10.index t = ![t.val % 8, 0]
    ∧ win0_11.index t = ![t.val % 8, 0]
    ∧ win0_12.index t = ![t.val % 8, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0] := by decide +kernel

theorem points (t : Fin cfg0.N) : t.val < 128 := lt_of_lt_of_eq t.isLt (by decide +kernel)

/-- A grid point's row in the whole arrays. -/
abbrev at' (t : Fin cfg0.N) (r : Fin 512) : Fin 65536 := ⟨t.val * 512 + r.val, by have := points t; have := r.isLt; omega⟩

/-- A grid point's row in the tables. -/
abbrev tat (t : Fin cfg0.N) (r : Fin 512) : Fin 4096 := ⟨t.val % 8 * 512 + r.val, by have := r.isLt; omega⟩

theorem tat_pos (t : Fin cfg0.N) (r : Fin 512) : tat t r = Cert.ProjReferenceIdeal.Rows.pos (at' t r) :=
  Fin.ext (by have := points t; have := r.isLt; simp only; omega)

theorem blk0 (c : Dev nD) (t : Fin cfg0.N) (r : Fin 512) (k : Fin 1024) :
    iblk m c 0 t (ix2 r k) = m ((c : Thread nD τ).loc main_arg0) (ix2 (at' t r) k) := by
  refine Eq.trans ?_ (congrFun (V_main_arg0 m c) (ix2 (at' t r) k))
  refine congrArg (V m c main_arg0) (funext fun a => Fin.ext ?_)
  have h : win0_0.index t = ![t.val, 0] := (idx t).1
  fin_cases a
  · show win0_0.index t 0 * 512 + 1 * r.val = t.val * 512 + r.val
    rw [congrFun h 0]; simp
  · show win0_0.index t 1 * 1024 + 1 * k.val = k.val
    rw [congrFun h 1]; simp

theorem blk1 (c : Dev nD) (t : Fin cfg0.N) (k : Fin 1024) :
    iblk m c 1 t (ix2 0 k) = m ((c : Thread nD τ).loc main_arg1) (ix2 0 k) := by
  refine Eq.trans ?_ (congrFun (V_main_arg1 m c) (ix2 0 k))
  refine congrArg (V m c main_arg1) (funext fun a => Fin.ext ?_)
  have h : win0_1.index t = ![0, 0] := (idx t).2.1
  fin_cases a
  · show win0_1.index t 0 * 1 + 1 * 0 = 0
    rw [congrFun h 0]; simp
  · show win0_1.index t 1 * 1024 + 1 * k.val = k.val
    rw [congrFun h 1]; simp

theorem blk2 (c : Dev nD) (t : Fin cfg0.N) (r : Fin 1024) (k : Fin 512) :
    iblk m c 2 t (ix2 r k) = m ((c : Thread nD τ).loc main_arg2) (ix2 r k) := by
  refine Eq.trans ?_ (congrFun (V_main_arg2 m c) (ix2 r k))
  refine congrArg (V m c main_arg2) (funext fun a => Fin.ext ?_)
  have h : win0_2.index t = ![0, 0] := (idx t).2.2.1
  fin_cases a
  · show win0_2.index t 0 * 1024 + 1 * r.val = r.val
    rw [congrFun h 0]; simp
  · show win0_2.index t 1 * 512 + 1 * k.val = k.val
    rw [congrFun h 1]; simp

theorem blk3 (c : Dev nD) (t : Fin cfg0.N) (r : Fin 1024) (k : Fin 512) :
    iblk m c 3 t (ix2 r k) = m ((c : Thread nD τ).loc main_arg3) (ix2 r k) := by
  refine Eq.trans ?_ (congrFun (V_main_arg3 m c) (ix2 r k))
  refine congrArg (V m c main_arg3) (funext fun a => Fin.ext ?_)
  have h : win0_3.index t = ![0, 0] := (idx t).2.2.2.1
  fin_cases a
  · show win0_3.index t 0 * 1024 + 1 * r.val = r.val
    rw [congrFun h 0]; simp
  · show win0_3.index t 1 * 512 + 1 * k.val = k.val
    rw [congrFun h 1]; simp

theorem blk4 (c : Dev nD) (t : Fin cfg0.N) (r : Fin 1024) (k : Fin 512) :
    iblk m c 4 t (ix2 r k) = m ((c : Thread nD τ).loc main_arg4) (ix2 r k) := by
  refine Eq.trans ?_ (congrFun (V_main_arg4 m c) (ix2 r k))
  refine congrArg (V m c main_arg4) (funext fun a => Fin.ext ?_)
  have h : win0_4.index t = ![0, 0] := (idx t).2.2.2.2.1
  fin_cases a
  · show win0_4.index t 0 * 1024 + 1 * r.val = r.val
    rw [congrFun h 0]; simp
  · show win0_4.index t 1 * 512 + 1 * k.val = k.val
    rw [congrFun h 1]; simp

theorem blk5 (c : Dev nD) (t : Fin cfg0.N) (r : Fin 1024) (k : Fin 1024) :
    iblk m c 5 t (ix2 r k) = m ((c : Thread nD τ).loc main_arg5) (ix2 r k) := by
  refine Eq.trans ?_ (congrFun (V_main_arg5 m c) (ix2 r k))
  refine congrArg (V m c main_arg5) (funext fun a => Fin.ext ?_)
  have h : win0_5.index t = ![0, 0] := (idx t).2.2.2.2.2.1
  fin_cases a
  · show win0_5.index t 0 * 1024 + 1 * r.val = r.val
    rw [congrFun h 0]; simp
  · show win0_5.index t 1 * 1024 + 1 * k.val = k.val
    rw [congrFun h 1]; simp

theorem blk6 (c : Dev nD) (t : Fin cfg0.N) (r : Fin 1024) (k : Fin 128) :
    iblk m c 6 t (ix2 r k) = m ((c : Thread nD τ).loc main_arg6) (ix2 r k) := by
  refine Eq.trans ?_ (congrFun (V_main_arg6 m c) (ix2 r k))
  refine congrArg (V m c main_arg6) (funext fun a => Fin.ext ?_)
  have h : win0_6.index t = ![0, 0] := (idx t).2.2.2.2.2.2.1
  fin_cases a
  · show win0_6.index t 0 * 1024 + 1 * r.val = r.val
    rw [congrFun h 0]; simp
  · show win0_6.index t 1 * 128 + 1 * k.val = k.val
    rw [congrFun h 1]; simp

theorem blk7 (c : Dev nD) (t : Fin cfg0.N) (k : Fin 256) :
    iblk m c 7 t (ix2 0 k) = m ((c : Thread nD τ).loc main_arg7) (ix2 0 k) := by
  refine Eq.trans ?_ (congrFun (V_main_arg7 m c) (ix2 0 k))
  refine congrArg (V m c main_arg7) (funext fun a => Fin.ext ?_)
  have h : win0_7.index t = ![0, 0] := (idx t).2.2.2.2.2.2.2.1
  fin_cases a
  · show win0_7.index t 0 * 1 + 1 * 0 = 0
    rw [congrFun h 0]; simp
  · show win0_7.index t 1 * 256 + 1 * k.val = k.val
    rw [congrFun h 1]; simp

theorem blk8 (c : Dev nD) (t : Fin cfg0.N) (k : Fin 128) :
    iblk m c 8 t (ix2 0 k) = m ((c : Thread nD τ).loc main_arg8) (ix2 0 k) := by
  refine Eq.trans ?_ (congrFun (V_main_arg8 m c) (ix2 0 k))
  refine congrArg (V m c main_arg8) (funext fun a => Fin.ext ?_)
  have h : win0_8.index t = ![0, 0] := (idx t).2.2.2.2.2.2.2.2.1
  fin_cases a
  · show win0_8.index t 0 * 1 + 1 * 0 = 0
    rw [congrFun h 0]; simp
  · show win0_8.index t 1 * 128 + 1 * k.val = k.val
    rw [congrFun h 1]; simp

theorem blk9 (c : Dev nD) (t : Fin cfg0.N) (r : Fin 512) (k : Fin 128) :
    iblk m c 9 t (ix2 r k) = m ((c : Thread nD τ).loc main_arg9) (ix2 (tat t r) k) := by
  refine Eq.trans ?_ (congrFun (V_main_arg9 m c) (ix2 (tat t r) k))
  refine congrArg (V m c main_arg9) (funext fun a => Fin.ext ?_)
  have h : win0_9.index t = ![t.val % 8, 0] := (idx t).2.2.2.2.2.2.2.2.2.1
  fin_cases a
  · show win0_9.index t 0 * 512 + 1 * r.val = t.val % 8 * 512 + r.val
    rw [congrFun h 0]; simp
  · show win0_9.index t 1 * 128 + 1 * k.val = k.val
    rw [congrFun h 1]; simp

theorem blk10 (c : Dev nD) (t : Fin cfg0.N) (r : Fin 512) (k : Fin 128) :
    iblk m c 10 t (ix2 r k) = m ((c : Thread nD τ).loc main_arg10) (ix2 (tat t r) k) := by
  refine Eq.trans ?_ (congrFun (V_main_arg10 m c) (ix2 (tat t r) k))
  refine congrArg (V m c main_arg10) (funext fun a => Fin.ext ?_)
  have h : win0_10.index t = ![t.val % 8, 0] := (idx t).2.2.2.2.2.2.2.2.2.2.1
  fin_cases a
  · show win0_10.index t 0 * 512 + 1 * r.val = t.val % 8 * 512 + r.val
    rw [congrFun h 0]; simp
  · show win0_10.index t 1 * 128 + 1 * k.val = k.val
    rw [congrFun h 1]; simp

theorem blk11 (c : Dev nD) (t : Fin cfg0.N) (r : Fin 512) (k : Fin 128) :
    iblk m c 11 t (ix2 r k) = m ((c : Thread nD τ).loc main_arg11) (ix2 (tat t r) k) := by
  refine Eq.trans ?_ (congrFun (V_main_arg11 m c) (ix2 (tat t r) k))
  refine congrArg (V m c main_arg11) (funext fun a => Fin.ext ?_)
  have h : win0_11.index t = ![t.val % 8, 0] := (idx t).2.2.2.2.2.2.2.2.2.2.2.1
  fin_cases a
  · show win0_11.index t 0 * 512 + 1 * r.val = t.val % 8 * 512 + r.val
    rw [congrFun h 0]; simp
  · show win0_11.index t 1 * 128 + 1 * k.val = k.val
    rw [congrFun h 1]; simp

theorem blk12 (c : Dev nD) (t : Fin cfg0.N) (r : Fin 512) (k : Fin 128) :
    iblk m c 12 t (ix2 r k) = m ((c : Thread nD τ).loc main_arg12) (ix2 (tat t r) k) := by
  refine Eq.trans ?_ (congrFun (V_main_arg12 m c) (ix2 (tat t r) k))
  refine congrArg (V m c main_arg12) (funext fun a => Fin.ext ?_)
  have h : win0_12.index t = ![t.val % 8, 0] := (idx t).2.2.2.2.2.2.2.2.2.2.2.2.1
  fin_cases a
  · show win0_12.index t 0 * 512 + 1 * r.val = t.val % 8 * 512 + r.val
    rw [congrFun h 0]; simp
  · show win0_12.index t 1 * 128 + 1 * k.val = k.val
    rw [congrFun h 1]; simp

/-- A grid point's normalised row is the whole array's. -/
theorem hrow_big (c : Dev nD) (t : Fin cfg0.N) (r : Fin 512) : hrow (iblk m c 0 t) (iblk m c 1 t) r
    = Cert.ProjReferenceIdeal.Rows.H (m ((c : Thread nD τ).loc main_arg0)) (m ((c : Thread nD τ).loc main_arg1)) (at' t r) :=
  congrArg₂ rms (funext fun k => blk0 m c t r k) (funext fun k => blk1 m c t k)

/-- The row's product with the first weights is finite. -/
theorem drow_real (c : Dev nD) (hf : Fin' m c) (t : Fin cfg0.N) (r j : Fin 512) :
    ∃ z : ℝ, drow (iblk m c 0 t) (iblk m c 1 t) (iblk m c 2 t) r j = (z : EReal) := by
  have hx : ∀ k : Fin 1024, ∃ z : ℝ, hrow (iblk m c 0 t) (iblk m c 1 t) r k = (z : EReal) := fun k =>
    rms_real _ _ k (by rw [blk1 m c t k]; exact hf.1 _)
  have hy : ∀ k : Fin 1024, ∃ z : ℝ, iblk m c 2 t (ix2 k j) = (z : EReal) := fun k => by
    rw [blk2 m c t k j]
    exact hf.2 _
  choose a ha using hx
  choose b hb using hy
  refine ⟨∑ k, a k * b k, ?_⟩
  unfold drow dot
  simp only [ha, hb]
  push_cast
  rfl

theorem wt2 (c : Dev nD) (t : Fin cfg0.N) : (fun (k : Fin 1024) (j : Fin 512) => iblk m c 2 t (ix2 k j))
    = fun k j => m ((c : Thread nD τ).loc main_arg2) (ix2 k j) :=
  funext fun k => funext fun j => blk2 m c t k j

theorem wt3 (c : Dev nD) (t : Fin cfg0.N) : (fun (k : Fin 1024) (j : Fin 512) => iblk m c 3 t (ix2 k j))
    = fun k j => m ((c : Thread nD τ).loc main_arg3) (ix2 k j) :=
  funext fun k => funext fun j => blk3 m c t k j

theorem wt4 (c : Dev nD) (t : Fin cfg0.N) : (fun (k : Fin 1024) (j : Fin 512) => iblk m c 4 t (ix2 k j))
    = fun k j => m ((c : Thread nD τ).loc main_arg4) (ix2 k j) :=
  funext fun k => funext fun j => blk4 m c t k j

theorem wt5 (c : Dev nD) (t : Fin cfg0.N) : (fun (k : Fin 1024) (j : Fin 1024) => iblk m c 5 t (ix2 k j))
    = fun k j => m ((c : Thread nD τ).loc main_arg5) (ix2 k j) :=
  funext fun k => funext fun j => blk5 m c t k j

theorem wt6 (c : Dev nD) (t : Fin cfg0.N) : (fun (k : Fin 1024) (j : Fin 128) => iblk m c 6 t (ix2 k j))
    = fun k j => m ((c : Thread nD τ).loc main_arg6) (ix2 k j) :=
  funext fun k => funext fun j => blk6 m c t k j

theorem tb9 (c : Dev nD) (t : Fin cfg0.N) (r : Fin 512) : (fun k : Fin 128 => iblk m c 9 t (ix2 r k))
    = fun k => m ((c : Thread nD τ).loc main_arg9) (ix2 (Cert.ProjReferenceIdeal.Rows.pos (at' t r)) k) :=
  funext fun k => (blk9 m c t r k).trans (congrArg (fun p => m ((c : Thread nD τ).loc main_arg9) (ix2 p k)) (tat_pos t r))

theorem tb10 (c : Dev nD) (t : Fin cfg0.N) (r : Fin 512) : (fun k : Fin 128 => iblk m c 10 t (ix2 r k))
    = fun k => m ((c : Thread nD τ).loc main_arg10) (ix2 (Cert.ProjReferenceIdeal.Rows.pos (at' t r)) k) :=
  funext fun k => (blk10 m c t r k).trans (congrArg (fun p => m ((c : Thread nD τ).loc main_arg10) (ix2 p k)) (tat_pos t r))

theorem tb11 (c : Dev nD) (t : Fin cfg0.N) (r : Fin 512) : (fun k : Fin 128 => iblk m c 11 t (ix2 r k))
    = fun k => m ((c : Thread nD τ).loc main_arg11) (ix2 (Cert.ProjReferenceIdeal.Rows.pos (at' t r)) k) :=
  funext fun k => (blk11 m c t r k).trans (congrArg (fun p => m ((c : Thread nD τ).loc main_arg11) (ix2 p k)) (tat_pos t r))

theorem tb12 (c : Dev nD) (t : Fin cfg0.N) (r : Fin 512) : (fun k : Fin 128 => iblk m c 12 t (ix2 r k))
    = fun k => m ((c : Thread nD τ).loc main_arg12) (ix2 (Cert.ProjReferenceIdeal.Rows.pos (at' t r)) k) :=
  funext fun k => (blk12 m c t r k).trans (congrArg (fun p => m ((c : Thread nD τ).loc main_arg12) (ix2 p k)) (tat_pos t r))

theorem gn7 (c : Dev nD) (t : Fin cfg0.N) : (fun k : Fin 256 => iblk m c 7 t (ix2 0 k))
    = fun k => m ((c : Thread nD τ).loc main_arg7) (ix2 0 k) :=
  funext fun k => blk7 m c t k

theorem gn8 (c : Dev nD) (t : Fin cfg0.N) : (fun k : Fin 128 => iblk m c 8 t (ix2 0 k))
    = fun k => m ((c : Thread nD τ).loc main_arg8) (ix2 0 k) :=
  funext fun k => blk8 m c t k

end Cert.ProjKernelIdeal.RefValue

end
-- ==== Proof.ProjValue.lean ====
/-
  THE PROJECTION CALL: the nine arrays its run leaves are the reference's arrays, for finite gains of the normalisation and
  finite first weights.

  Each grid point writes one tile of 512 rows of each result.
-/
module

public import proofs.«01_k».proof.Defs
public import proofs.«01_k».proof.Proof.ProjTiles
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.Pre_proj_finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjKernelIdeal.RefValue

open Cert.ProjKernelIdeal Cert.ProjKernelIdeal.Gen Cert.Norm Cert.ProjSpec
open Idealize.ShloMosaic.Pipeline (Dat)

variable (m : (ℓ : Loc nD τ sig) → Buf (Elt Ideal) ℓ) (ρ : Dev nD → PrngReg)

theorem emb13 (t : Fin cfg0.N) (r : Fin 512) (d : Fin 256) : (win0_13.blk t).view.emb (ix2 r d) = ix2 (at' t r) d := by
  have h : win0_13.index t = ![t.val, 0] := (idx t).2.2.2.2.2.2.2.2.2.2.2.2.2.1
  refine funext fun a => Fin.ext ?_
  fin_cases a
  · show win0_13.index t 0 * 512 + 1 * r.val = t.val * 512 + r.val
    rw [congrFun h 0]; simp
  · show win0_13.index t 1 * 256 + 1 * d.val = d.val
    rw [congrFun h 1]; simp

/-- What a grid point leaves in result 0, at an index. -/
theorem tile13 (c : Dev nD) (hf : Fin' m c) (t : Fin cfg0.N) (r : Fin 512) (d : Fin 256) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G0 m c (ix2 (at' t r) d) := by
  rw [o13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d (drow_real m c hf t r)]
  refine Eq.trans ?_ (Cert.ProjReferenceIdeal.Rows.stage126 _ _ _ _ _ _ (at' t r) d).symm
  unfold drow
  rw [hrow_big m c t r, wt2 m c t, gn7 m c t, tb9 m c t r, tb10 m c t r]

theorem left13 (c : Dev nD) (t : Fin cfg0.N) : (outsAt0 m c t).1 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 0 after the run. -/
theorem final13 (c : Dev nD) (hf : Fin' m c) : (dats m 0 c).arrAt 13 cfg0.N = G0 m c := by
  refine (dats m 0 c).arrAt_eq_of_covers 13 _ (by decide +kernel) fun t hft y => ?_
  blk_simp
  rw [after0_13, left13]
  obtain ⟨r, d, rfl⟩ : ∃ (r : Fin 512) (d : Fin 256), y = ix2 r d := ⟨y 0, y 1, by funext a; fin_cases a <;> rfl⟩
  rw [emb13 t r d]
  exact tile13 m c hf t r d

theorem emb14 (t : Fin cfg0.N) (r : Fin 512) (d : Fin 128) : (win0_14.blk t).view.emb (ix2 r d) = ix2 (at' t r) d := by
  have h : win0_14.index t = ![t.val, 0] := (idx t).2.2.2.2.2.2.2.2.2.2.2.2.2.2.1
  refine funext fun a => Fin.ext ?_
  fin_cases a
  · show win0_14.index t 0 * 512 + 1 * r.val = t.val * 512 + r.val
    rw [congrFun h 0]; simp
  · show win0_14.index t 1 * 128 + 1 * d.val = d.val
    rw [congrFun h 1]; simp

/-- What a grid point leaves in result 1, at an index. -/
theorem tile14 (c : Dev nD) (hf : Fin' m c) (t : Fin cfg0.N) (r : Fin 512) (d : Fin 128) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G1 m c (ix2 (at' t r) d) := by
  rw [o14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d (drow_real m c hf t r)]
  refine Eq.trans ?_ (Cert.ProjReferenceIdeal.Rows.stage127 _ _ _ _ _ _ (at' t r) d).symm
  unfold drow
  rw [hrow_big m c t r, wt2 m c t, gn8 m c t, tb9 m c t r, tb10 m c t r]

theorem left14 (c : Dev nD) (t : Fin cfg0.N) : (outsAt0 m c t).2.1 = out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 1 after the run. -/
theorem final14 (c : Dev nD) (hf : Fin' m c) : (dats m 0 c).arrAt 14 cfg0.N = G1 m c := by
  refine (dats m 0 c).arrAt_eq_of_covers 14 _ (by decide +kernel) fun t hft y => ?_
  blk_simp
  rw [after0_14, left14]
  obtain ⟨r, d, rfl⟩ : ∃ (r : Fin 512) (d : Fin 128), y = ix2 r d := ⟨y 0, y 1, by funext a; fin_cases a <;> rfl⟩
  rw [emb14 t r d]
  exact tile14 m c hf t r d

theorem emb15 (t : Fin cfg0.N) (r : Fin 512) (d : Fin 128) : (win0_15.blk t).view.emb (ix2 r d) = ix2 (at' t r) d := by
  have h : win0_15.index t = ![t.val, 0] := (idx t).2.2.2.2.2.2.2.2.2.2.2.2.2.2.2.1
  refine funext fun a => Fin.ext ?_
  fin_cases a
  · show win0_15.index t 0 * 512 + 1 * r.val = t.val * 512 + r.val
    rw [congrFun h 0]; simp
  · show win0_15.index t 1 * 128 + 1 * d.val = d.val
    rw [congrFun h 1]; simp

/-- What a grid point leaves in result 2, at an index. -/
theorem tile15 (c : Dev nD) (t : Fin cfg0.N) (r : Fin 512) (d : Fin 128) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G2 m c (ix2 (at' t r) d) := by
  rw [o15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage128 _ _ _ (at' t r) d).symm
  unfold drow
  rw [hrow_big m c t r, wt2 m c t]

theorem left15 (c : Dev nD) (t : Fin cfg0.N) : (outsAt0 m c t).2.2.1 = out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 2 after the run. -/
theorem final15 (c : Dev nD) : (dats m 0 c).arrAt 15 cfg0.N = G2 m c := by
  refine (dats m 0 c).arrAt_eq_of_covers 15 _ (by decide +kernel) fun t hft y => ?_
  blk_simp
  rw [after0_15, left15]
  obtain ⟨r, d, rfl⟩ : ∃ (r : Fin 512) (d : Fin 128), y = ix2 r d := ⟨y 0, y 1, by funext a; fin_cases a <;> rfl⟩
  rw [emb15 t r d]
  exact tile15 m c t r d

theorem emb16 (t : Fin cfg0.N) (r : Fin 512) (d : Fin 256) : (win0_16.blk t).view.emb (ix2 r d) = ix2 (at' t r) d := by
  have h : win0_16.index t = ![t.val, 0] := (idx t).2.2.2.2.2.2.2.2.2.2.2.2.2.2.2.2.1
  refine funext fun a => Fin.ext ?_
  fin_cases a
  · show win0_16.index t 0 * 512 + 1 * r.val = t.val * 512 + r.val
    rw [congrFun h 0]; simp
  · show win0_16.index t 1 * 256 + 1 * d.val = d.val
    rw [congrFun h 1]; simp

/-- What a grid point leaves in result 3, at an index. -/
theorem tile16 (c : Dev nD) (t : Fin cfg0.N) (r : Fin 512) (d : Fin 256) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G3 m c (ix2 (at' t r) d) := by
  rw [o16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage129 _ _ _ (at' t r) d).symm
  rw [hrow_big m c t r, wt3 m c t]

theorem left16 (c : Dev nD) (t : Fin cfg0.N) : (outsAt0 m c t).2.2.2.1 = out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 3 after the run. -/
theorem final16 (c : Dev nD) : (dats m 0 c).arrAt 16 cfg0.N = G3 m c := by
  refine (dats m 0 c).arrAt_eq_of_covers 16 _ (by decide +kernel) fun t hft y => ?_
  blk_simp
  rw [after0_16, left16]
  obtain ⟨r, d, rfl⟩ : ∃ (r : Fin 512) (d : Fin 256), y = ix2 r d := ⟨y 0, y 1, by funext a; fin_cases a <;> rfl⟩
  rw [emb16 t r d]
  exact tile16 m c t r d

theorem emb17 (t : Fin cfg0.N) (r : Fin 512) (d : Fin 256) : (win0_17.blk t).view.emb (ix2 r d) = ix2 (at' t r) d := by
  have h : win0_17.index t = ![t.val, 0] := (idx t).2.2.2.2.2.2.2.2.2.2.2.2.2.2.2.2.2.1
  refine funext fun a => Fin.ext ?_
  fin_cases a
  · show win0_17.index t 0 * 512 + 1 * r.val = t.val * 512 + r.val
    rw [congrFun h 0]; simp
  · show win0_17.index t 1 * 256 + 1 * d.val = d.val
    rw [congrFun h 1]; simp

/-- What a grid point leaves in result 4, at an index. -/
theorem tile17 (c : Dev nD) (t : Fin cfg0.N) (r : Fin 512) (d : Fin 256) :
    out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G4 m c (ix2 (at' t r) d) := by
  rw [o17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage130 _ _ _ _ _ (at' t r) d).symm
  rw [hrow_big m c t r, wt4 m c t, tb11 m c t r, tb12 m c t r]

theorem left17 (c : Dev nD) (t : Fin cfg0.N) : (outsAt0 m c t).2.2.2.2.1 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 4 after the run. -/
theorem final17 (c : Dev nD) : (dats m 0 c).arrAt 17 cfg0.N = G4 m c := by
  refine (dats m 0 c).arrAt_eq_of_covers 17 _ (by decide +kernel) fun t hft y => ?_
  blk_simp
  rw [after0_17, left17]
  obtain ⟨r, d, rfl⟩ : ∃ (r : Fin 512) (d : Fin 256), y = ix2 r d := ⟨y 0, y 1, by funext a; fin_cases a <;> rfl⟩
  rw [emb17 t r d]
  exact tile17 m c t r d

theorem emb18 (t : Fin cfg0.N) (r : Fin 512) (d : Fin 128) : (win0_18.blk t).view.emb (ix2 r d) = ix2 (at' t r) d := by
  have h : win0_18.index t = ![t.val, 0] := (idx t).2.2.2.2.2.2.2.2.2.2.2.2.2.2.2.2.2.2.1
  refine funext fun a => Fin.ext ?_
  fin_cases a
  · show win0_18.index t 0 * 512 + 1 * r.val = t.val * 512 + r.val
    rw [congrFun h 0]; simp
  · show win0_18.index t 1 * 128 + 1 * d.val = d.val
    rw [congrFun h 1]; simp

/-- What a grid point leaves in result 5, at an index. -/
theorem tile18 (c : Dev nD) (t : Fin cfg0.N) (r : Fin 512) (d : Fin 128) :
    out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G5 m c (ix2 (at' t r) d) := by
  rw [o18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage131 _ _ _ _ _ (at' t r) d).symm
  rw [hrow_big m c t r, wt4 m c t, tb11 m c t r, tb12 m c t r]

theorem left18 (c : Dev nD) (t : Fin cfg0.N) : (outsAt0 m c t).2.2.2.2.2.1 = out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 5 after the run. -/
theorem final18 (c : Dev nD) : (dats m 0 c).arrAt 18 cfg0.N = G5 m c := by
  refine (dats m 0 c).arrAt_eq_of_covers 18 _ (by decide +kernel) fun t hft y => ?_
  blk_simp
  rw [after0_18, left18]
  obtain ⟨r, d, rfl⟩ : ∃ (r : Fin 512) (d : Fin 128), y = ix2 r d := ⟨y 0, y 1, by funext a; fin_cases a <;> rfl⟩
  rw [emb18 t r d]
  exact tile18 m c t r d

theorem emb19 (t : Fin cfg0.N) (r : Fin 512) (d : Fin 128) : (win0_19.blk t).view.emb (ix2 r d) = ix2 (at' t r) d := by
  have h : win0_19.index t = ![t.val, 0] := (idx t).2.2.2.2.2.2.2.2.2.2.2.2.2.2.2.2.2.2.2.1
  refine funext fun a => Fin.ext ?_
  fin_cases a
  · show win0_19.index t 0 * 512 + 1 * r.val = t.val * 512 + r.val
    rw [congrFun h 0]; simp
  · show win0_19.index t 1 * 128 + 1 * d.val = d.val
    rw [congrFun h 1]; simp

/-- What a grid point leaves in result 6, at an index. -/
theorem tile19 (c : Dev nD) (t : Fin cfg0.N) (r : Fin 512) (d : Fin 128) :
    out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G6 m c (ix2 (at' t r) d) := by
  rw [o19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage132 _ _ _ (at' t r) d).symm
  rw [hrow_big m c t r, wt4 m c t]

theorem left19 (c : Dev nD) (t : Fin cfg0.N) : (outsAt0 m c t).2.2.2.2.2.2.1 = out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 6 after the run. -/
theorem final19 (c : Dev nD) : (dats m 0 c).arrAt 19 cfg0.N = G6 m c := by
  refine (dats m 0 c).arrAt_eq_of_covers 19 _ (by decide +kernel) fun t hft y => ?_
  blk_simp
  rw [after0_19, left19]
  obtain ⟨r, d, rfl⟩ : ∃ (r : Fin 512) (d : Fin 128), y = ix2 r d := ⟨y 0, y 1, by funext a; fin_cases a <;> rfl⟩
  rw [emb19 t r d]
  exact tile19 m c t r d

theorem emb20 (t : Fin cfg0.N) (r : Fin 512) (d : Fin 1024) : (win0_20.blk t).view.emb (ix2 r d) = ix2 (at' t r) d := by
  have h : win0_20.index t = ![t.val, 0] := (idx t).2.2.2.2.2.2.2.2.2.2.2.2.2.2.2.2.2.2.2.2.1
  refine funext fun a => Fin.ext ?_
  fin_cases a
  · show win0_20.index t 0 * 512 + 1 * r.val = t.val * 512 + r.val
    rw [congrFun h 0]; simp
  · show win0_20.index t 1 * 1024 + 1 * d.val = d.val
    rw [congrFun h 1]; simp

/-- What a grid point leaves in result 7, at an index. -/
theorem tile20 (c : Dev nD) (t : Fin cfg0.N) (r : Fin 512) (d : Fin 1024) :
    out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G7 m c (ix2 (at' t r) d) := by
  rw [o20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage133 _ _ _ (at' t r) d).symm
  rw [hrow_big m c t r, wt5 m c t]

theorem left20 (c : Dev nD) (t : Fin cfg0.N) : (outsAt0 m c t).2.2.2.2.2.2.2.1 = out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 7 after the run. -/
theorem final20 (c : Dev nD) : (dats m 0 c).arrAt 20 cfg0.N = G7 m c := by
  refine (dats m 0 c).arrAt_eq_of_covers 20 _ (by decide +kernel) fun t hft y => ?_
  blk_simp
  rw [after0_20, left20]
  obtain ⟨r, d, rfl⟩ : ∃ (r : Fin 512) (d : Fin 1024), y = ix2 r d := ⟨y 0, y 1, by funext a; fin_cases a <;> rfl⟩
  rw [emb20 t r d]
  exact tile20 m c t r d

theorem emb21 (t : Fin cfg0.N) (r : Fin 512) (d : Fin 128) : (win0_21.blk t).view.emb (ix2 r d) = ix2 (at' t r) d := by
  have h : win0_21.index t = ![t.val, 0] := (idx t).2.2.2.2.2.2.2.2.2.2.2.2.2.2.2.2.2.2.2.2.2
  refine funext fun a => Fin.ext ?_
  fin_cases a
  · show win0_21.index t 0 * 512 + 1 * r.val = t.val * 512 + r.val
    rw [congrFun h 0]; simp
  · show win0_21.index t 1 * 128 + 1 * d.val = d.val
    rw [congrFun h 1]; simp

/-- What a grid point leaves in result 8, at an index. -/
theorem tile21 (c : Dev nD) (t : Fin cfg0.N) (r : Fin 512) (d : Fin 128) :
    out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = G8 m c (ix2 (at' t r) d) := by
  rw [o21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d ]
  refine Eq.trans ?_ (Cert.ProjReferenceIdeal.Rows.stage134 _ _ _ (at' t r) d).symm
  rw [hrow_big m c t r, wt6 m c t]

theorem left21 (c : Dev nD) (t : Fin cfg0.N) : (outsAt0 m c t).2.2.2.2.2.2.2.2 = out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  simp only [outsAt0]

/-- Result array 8 after the run. -/
theorem final21 (c : Dev nD) : (dats m 0 c).arrAt 21 cfg0.N = G8 m c := by
  refine (dats m 0 c).arrAt_eq_of_covers 21 _ (by decide +kernel) fun t hft y => ?_
  blk_simp
  rw [after0_21, left21]
  obtain ⟨r, d, rfl⟩ : ∃ (r : Fin 512) (d : Fin 128), y = ix2 r d := ⟨y 0, y 1, by funext a; fin_cases a <;> rfl⟩
  rw [emb21 t r d]
  exact tile21 m c t r d

/-- The run: the result arrays at the reference's values, the arguments unchanged. -/
theorem run (hf : ∀ c, Fin' m c) : θ_run defs (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_v0_3) = G3 m c
      ∧ r.2.mem ((c : Thread nD τ).loc main_v0_4) = G4 m c
      ∧ r.2.mem ((c : Thread nD τ).loc main_v0_5) = G5 m c
      ∧ r.2.mem ((c : Thread nD τ).loc main_v0_6) = G6 m c
      ∧ r.2.mem ((c : Thread nD τ).loc main_v0_7) = G7 m c
      ∧ r.2.mem ((c : Thread nD τ).loc main_v0_8) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final13 m c (hf c)), (h c).2.1.trans (final14 m c (hf c)), (h c).2.2.1.trans (final15 m c), (h c).2.2.2.1.trans (final16 m c), (h c).2.2.2.2.1.trans (final17 m c), (h c).2.2.2.2.2.1.trans (final18 m c), (h c).2.2.2.2.2.2.1.trans (final19 m c), (h c).2.2.2.2.2.2.2.1.trans (final20 m c), (h c).2.2.2.2.2.2.2.2.1.trans (final21 m c), (h c).2.2.2.2.2.2.2.2.2⟩) (Value.run_blocks m ρ)

end Cert.ProjKernelIdeal.RefValue

end
-- ==== Proof.PleValue.lean ====
/-
  THE PER-LAYER EMBEDDING CALL: the array its run leaves is the reference's array.

  Each grid point writes one tile of 512 rows. The tile's contents are the body's payload over the point's
  input blocks; read at an index, that payload is the reference's own expression at the index's place in the whole array.
-/
module

public import proofs.«01_k».proof.Defs
public import proofs.«01_k».proof.Proof.Gen.PleKernelIdeal.Value
public import proofs.«01_k».proof.Proof.Gen.PleReferenceIdeal.Run
public import proofs.«01_k».proof.Proof.Gen.PleReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.PleKernelIdeal.RefValue

open Cert.PleKernelIdeal Cert.PleKernelIdeal.Gen
open Idealize.ShloMosaic.Pipeline (Dat)

variable (m : (ℓ : Loc nD τ sig) → Buf (Elt Ideal) ℓ) (ρ : Dev nD → PrngReg)

/-- The reference's result on the kernel's argument arrays. -/
abbrev G (c : Dev nD) : Buf (Elt Ideal) ((c : Thread nD τ).loc main_v0) :=
  Cert.PleReferenceIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block lies at a grid point: row tile `t` of the row arrays, the weights whole. -/
theorem idx : ∀ t : Fin grid0.N,
    win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] := by decide +kernel

/-- The result array after the run is the reference's result, whole. -/
theorem final (c : Dev nD) : (dats m 0 c).arrAt 6 cfg0.N = G m c := by
  refine (dats m 0 c).arrAt_eq_of_covers 6 _ (by decide +kernel) fun t hf y => ?_
  blk_simp
  rw [after0_6]
  frame_out
  unfold G
  rw [← Cert.PleReferenceIdeal.Read.val_main_v23_eq]
  pointwise [k0_pay1]
  simp only [Ideal.logistic]
  blk_point [iblk, V, idx t]

/-- The run: the result array at the reference's value, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.PleKernelIdeal.RefValue

end
-- ==== Proof.PleLastValue.lean ====
/-
  THE LAST LAYER'S EMBEDDING CALL: the array its run leaves is the reference's array.

  Each grid point writes one tile of 512 rows. The tile's contents are the body's payload over the point's
  input blocks; read at an index, that payload is the reference's own expression at the index's place in the whole array.
-/
module

public import proofs.«01_k».proof.Defs
public import proofs.«01_k».proof.Proof.Gen.PleLastKernelIdeal.Value
public import proofs.«01_k».proof.Proof.Gen.PleLastReferenceIdeal.Run
public import proofs.«01_k».proof.Proof.Gen.PleLastReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.PleLastKernelIdeal.RefValue

open Cert.PleLastKernelIdeal Cert.PleLastKernelIdeal.Gen
open Idealize.ShloMosaic.Pipeline (Dat)

variable (m : (ℓ : Loc nD τ sig) → Buf (Elt Ideal) ℓ) (ρ : Dev nD → PrngReg)

/-- The reference's result on the kernel's argument arrays. -/
abbrev G (c : Dev nD) : Buf (Elt Ideal) ((c : Thread nD τ).loc main_v0) :=
  Cert.PleLastReferenceIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- Where each window's block lies at a grid point: row tile `t` of the row arrays, the weights whole. -/
theorem idx : ∀ t : Fin grid0.N,
    win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] := by decide +kernel

/-- The result array after the run is the reference's result, whole. -/
theorem final (c : Dev nD) : (dats m 0 c).arrAt 6 cfg0.N = G m c := by
  refine (dats m 0 c).arrAt_eq_of_covers 6 _ (by decide +kernel) fun t hf y => ?_
  blk_simp
  rw [after0_6]
  frame_out
  unfold G
  simp only [Cert.PleLastReferenceIdeal.Read.val_main_v0, Cert.PleLastReferenceIdeal.Read.val_main_cst, Cert.PleLastReferenceIdeal.Read.val_main_v1, Cert.PleLastReferenceIdeal.Read.val_main_v2, Cert.PleLastReferenceIdeal.Read.val_main_cst_0, Cert.PleLastReferenceIdeal.Read.val_main_v3, Cert.PleLastReferenceIdeal.Read.val_main_v4, Cert.PleLastReferenceIdeal.Read.val_main_cst_1, Cert.PleLastReferenceIdeal.Read.val_main_v5, Cert.PleLastReferenceIdeal.Read.val_main_v6, Cert.PleLastReferenceIdeal.Read.val_main_v7, Cert.PleLastReferenceIdeal.Read.val_main_v8, Cert.PleLastReferenceIdeal.Read.val_main_v9, Cert.PleLastReferenceIdeal.Read.val_main_v10, Cert.PleLastReferenceIdeal.Read.val_main_v11, Cert.PleLastReferenceIdeal.Read.val_main_v12, Cert.PleLastReferenceIdeal.Read.val_main_v13, Cert.PleLastReferenceIdeal.Read.val_main_v14, Cert.PleLastReferenceIdeal.Read.val_main_v15, Cert.PleLastReferenceIdeal.Read.val_main_cst_2, Cert.PleLastReferenceIdeal.Read.val_main_v16, Cert.PleLastReferenceIdeal.Read.val_main_v17, Cert.PleLastReferenceIdeal.Read.val_main_cst_3, Cert.PleLastReferenceIdeal.Read.val_main_v18, Cert.PleLastReferenceIdeal.Read.val_main_v19, Cert.PleLastReferenceIdeal.Read.val_main_v20, Cert.PleLastReferenceIdeal.Read.val_main_v21, Cert.PleLastReferenceIdeal.Read.val_main_v22, Cert.PleLastReferenceIdeal.Read.val_main_v23, Cert.PleLastReferenceIdeal.Read.val_main_v24, Cert.PleLastReferenceIdeal.Read.val_main_cst_4, Cert.PleLastReferenceIdeal.Read.val_main_v25, Cert.PleLastReferenceIdeal.Read.val_main_v26, Cert.PleLastReferenceIdeal.Read.val_main_cst_5, Cert.PleLastReferenceIdeal.Read.val_main_v27, Cert.PleLastReferenceIdeal.Read.val_main_v28, Cert.PleLastReferenceIdeal.Read.val_main_cst_6, Cert.PleLastReferenceIdeal.Read.val_main_v29, Cert.PleLastReferenceIdeal.Read.val_main_v30, Cert.PleLastReferenceIdeal.Read.val_main_v31, Cert.PleLastReferenceIdeal.Read.val_main_v32, Cert.PleLastReferenceIdeal.Read.val_main_v33, Cert.PleLastReferenceIdeal.Read.val_main_v34, Cert.PleLastReferenceIdeal.Read.val_main_v35]
  pointwise [k0_pay1]
  simp only [Ideal.logistic]
  blk_point [iblk, V, idx t]

/-- The run: the result array at the reference's value, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.PleLastKernelIdeal.RefValue

end
-- ==== Proof.lean ====
/-
  THE CERTIFICATE: the claims of every call, assembled.
-/
module

public import proofs.«01_k».proof.Defs
public import proofs.«01_k».proof.Proof.Gen.AttnKernel.Frame
public import proofs.«01_k».proof.Proof.Gen.AttnKernelIdeal.Frame
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.AttnValue
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.FfnValue
public import proofs.«01_k».proof.Proof.Gen.MergeKernel.Frame
public import proofs.«01_k».proof.Proof.Gen.MergeKernelIdeal.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.MergeValue
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.ProjValue
public import proofs.«01_k».proof.Proof.Gen.PleKernel.Frame
public import proofs.«01_k».proof.Proof.Gen.PleKernelIdeal.Frame
public import proofs.«01_k».proof.Proof.Gen.PleKernelIdeal.Value
public import proofs.«01_k».proof.Proof.Gen.PleReferenceIdeal.Run
public import proofs.«01_k».proof.Proof.Gen.PleReferenceIdeal.Read
public import proofs.«01_k».proof.Proof.PleValue
public import proofs.«01_k».proof.Proof.Gen.PleLastKernel.Frame
public import proofs.«01_k».proof.Proof.Gen.PleLastKernelIdeal.Frame
public import proofs.«01_k».proof.Proof.Gen.PleLastKernelIdeal.Value
public import proofs.«01_k».proof.Proof.Gen.PleLastReferenceIdeal.Run
public import proofs.«01_k».proof.Proof.Gen.PleLastReferenceIdeal.Read
public import proofs.«01_k».proof.Proof.PleLastValue
public import proofs.«01_k».proof.Proof.Gen.Pre_attn_finite
public import proofs.«01_k».proof.Proof.Gen.Pre_merge_finite
public import proofs.«01_k».proof.Proof.Gen.Pre_proj_finite
public import Idealize.ShloMosaic.Lib.Quiescent

@[expose] public section

set_option maxRecDepth 16384

noncomputable section

namespace Cert.Proof

open Idealize.ShloMosaic Idealize.ShloMosaic.TcCoe Idealize.SL.Sem

/-- The global attention: the reference runs and leaves its arguments. -/
theorem attn_reference (m : (ℓ : Loc Cert.AttnReferenceIdeal.nD Cert.AttnReferenceIdeal.τ Cert.AttnReferenceIdeal.sig) → Buf (Elt Ideal) ℓ) (ρ : Dev Cert.AttnReferenceIdeal.nD → PrngReg) :
    θ_run (Cert.AttnReferenceIdeal.defs (F := Ideal)) (onTc (τ := Cert.AttnReferenceIdeal.τ) (Cert.AttnReferenceIdeal.main (F := Ideal))) ⟨m, fun _ => 0, ρ⟩
      (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0) :=
  (θ_run Cert.AttnReferenceIdeal.defs _ _).mono
    (fun r h => ⟨fun c => (h c).2, Idealize.ShloMosaic.sem_eq_zero_of_no_sems (by decide) r.2⟩)
    (Cert.AttnReferenceIdeal.Value.run (F := Ideal) m ρ)

/-- The global attention: the kernel's results are the reference's. -/
theorem attn_algebraic : Cert.algebraic_AttnKernelIdeal_AttnReferenceIdeal_pre_attn_finite := by
  intro m ρ m' ρ' hpre hagree
  refine ⟨fun c => Cert.AttnKernelIdeal.RefValue.G m c, Cert.AttnKernelIdeal.RefValue.run m ρ (fun c => Cert.AttnKernelIdeal.RefValue.finite_of_pre m c (hpre c)), ?_⟩
  refine (θ_run Cert.AttnReferenceIdeal.defs _ _).mono (fun _ h c => ?_) (Cert.AttnReferenceIdeal.Value.run (F := Ideal) m' ρ')
  obtain ⟨h0, h1, h2⟩ := hagree c
  refine ⟨((h c).1).trans ?_, (h c).2⟩
  · unfold Cert.AttnKernelIdeal.RefValue.G
    simp only [← h0, ← h1, ← h2]
    exact Cert.AttnReferenceIdeal.Read.val_main_v22_eq _ _ _

/-- The expert feed-forward: the reference runs and leaves its arguments. -/
theorem ffn_reference (m : (ℓ : Loc Cert.FfnReferenceIdeal.nD Cert.FfnReferenceIdeal.τ Cert.FfnReferenceIdeal.sig) → Buf (Elt Ideal) ℓ) (ρ : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, ρ⟩
      (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0) :=
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- The expert feed-forward: the kernel's results are the reference's. -/
theorem ffn_algebraic : Cert.algebraic_FfnKernelIdeal_FfnReferenceIdeal := by
  intro m ρ m' ρ' _ hagree
  refine ⟨fun c => Cert.FfnKernelIdeal.RefValue.G m c, Cert.FfnKernelIdeal.RefValue.run m ρ, ?_⟩
  refine (θ_run Cert.FfnReferenceIdeal.defs _ _).mono (fun _ h c => ?_) (Cert.FfnReferenceIdeal.Value.run (F := Ideal) m' ρ')
  obtain ⟨h0, h1, h2, h3, h4⟩ := hagree c
  refine ⟨((h c).1).trans ?_, (h c).2⟩
  · unfold Cert.FfnKernelIdeal.RefValue.G
    simp only [← h0, ← h1, ← h2, ← h3, ← h4]
    exact Cert.FfnReferenceIdeal.Read.val_main_v10_eq _ _ _ _ _

/-- The merge of the branches: the reference runs and leaves its arguments. -/
theorem merge_reference (m : (ℓ : Loc Cert.MergeReferenceIdeal.nD Cert.MergeReferenceIdeal.τ Cert.MergeReferenceIdeal.sig) → Buf (Elt Ideal) ℓ) (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩
      (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0) :=
  (θ_run Cert.MergeReferenceIdeal.defs _ _).mono
    (fun r h => ⟨fun c => (h c).2.2.2, Idealize.ShloMosaic.sem_eq_zero_of_no_sems (by decide) r.2⟩)
    (Cert.MergeReferenceIdeal.Value.run (F := Ideal) m ρ)

/-- The merge of the branches: the kernel's results are the reference's. -/
theorem merge_algebraic : Cert.algebraic_MergeKernelIdeal_MergeReferenceIdeal_pre_merge_finite := by
  intro m ρ m' ρ' hpre hagree
  refine ⟨fun c => Cert.MergeKernelIdeal.RefValue.G0 m c, fun c => Cert.MergeKernelIdeal.RefValue.G1 m c, fun c => Cert.MergeKernelIdeal.RefValue.G2 m c, Cert.MergeKernelIdeal.RefValue.run m ρ (fun c => Cert.MergeKernelIdeal.RefValue.finite_of_pre m c (hpre c)), ?_⟩
  refine (θ_run Cert.MergeReferenceIdeal.defs _ _).mono (fun _ h c => ?_) (Cert.MergeReferenceIdeal.Value.run (F := Ideal) m' ρ')
  obtain ⟨h0, h1, h2, h3, h4, h5, h6, h7, h8, h9, h10, h11, h12⟩ := hagree c
  refine ⟨((h c).1).trans ?_, ((h c).2.1).trans ?_, ((h c).2.2.1).trans ?_, (h c).2.2.2⟩
  · unfold Cert.MergeKernelIdeal.RefValue.G0
    simp only [← h0, ← h1, ← h2, ← h3, ← h4, ← h5, ← h6, ← h7, ← h8, ← h9, ← h10, ← h11, ← h12]
    exact Cert.MergeReferenceIdeal.Read.val_main_v79_eq m' c
  · unfold Cert.MergeKernelIdeal.RefValue.G1
    simp only [← h0, ← h1, ← h2, ← h3, ← h4, ← h5, ← h6, ← h7, ← h8, ← h9, ← h10, ← h11, ← h12]
    exact Cert.MergeReferenceIdeal.Read.val_main_v104_eq m' c
  · unfold Cert.MergeKernelIdeal.RefValue.G2
    simp only [← h0, ← h1, ← h2, ← h3, ← h4, ← h5, ← h6, ← h7, ← h8, ← h9, ← h10, ← h11, ← h12]
    exact Cert.MergeReferenceIdeal.Read.val_main_v105_eq m' c

/-- The projections: the reference runs and leaves its arguments. -/
theorem proj_reference (m : (ℓ : Loc Cert.ProjReferenceIdeal.nD Cert.ProjReferenceIdeal.τ Cert.ProjReferenceIdeal.sig) → Buf (Elt Ideal) ℓ) (ρ : Dev Cert.ProjReferenceIdeal.nD → PrngReg) :
    θ_run (Cert.ProjReferenceIdeal.defs (F := Ideal)) (onTc (τ := Cert.ProjReferenceIdeal.τ) (Cert.ProjReferenceIdeal.main (F := Ideal))) ⟨m, fun _ => 0, ρ⟩
      (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0) :=
  (θ_run Cert.ProjReferenceIdeal.defs _ _).mono
    (fun r h => ⟨fun c => (h c).2.2.2.2.2.2.2.2.2, Idealize.ShloMosaic.sem_eq_zero_of_no_sems (by decide) r.2⟩)
    (Cert.ProjReferenceIdeal.Value.run (F := Ideal) m ρ)

/-- The projections: the kernel's results are the reference's. -/
theorem proj_algebraic : Cert.algebraic_ProjKernelIdeal_ProjReferenceIdeal_pre_proj_finite := by
  intro m ρ m' ρ' hpre hagree
  refine ⟨fun c => Cert.ProjKernelIdeal.RefValue.G0 m c, fun c => Cert.ProjKernelIdeal.RefValue.G1 m c, fun c => Cert.ProjKernelIdeal.RefValue.G2 m c, fun c => Cert.ProjKernelIdeal.RefValue.G3 m c, fun c => Cert.ProjKernelIdeal.RefValue.G4 m c, fun c => Cert.ProjKernelIdeal.RefValue.G5 m c, fun c => Cert.ProjKernelIdeal.RefValue.G6 m c, fun c => Cert.ProjKernelIdeal.RefValue.G7 m c, fun c => Cert.ProjKernelIdeal.RefValue.G8 m c, Cert.ProjKernelIdeal.RefValue.run m ρ (fun c => Cert.ProjKernelIdeal.RefValue.finite_of_pre m c (hpre c)), ?_⟩
  refine (θ_run Cert.ProjReferenceIdeal.defs _ _).mono (fun _ h c => ?_) (Cert.ProjReferenceIdeal.Value.run (F := Ideal) m' ρ')
  obtain ⟨h0, h1, h2, h3, h4, h5, h6, h7, h8, h9, h10, h11, h12⟩ := hagree c
  refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩
  · unfold Cert.ProjKernelIdeal.RefValue.G0
    simp only [← h0, ← h1, ← h2, ← h3, ← h4, ← h5, ← h6, ← h7, ← h8, ← h9, ← h10, ← h11, ← h12]
    exact Cert.ProjReferenceIdeal.Read.val_main_v126_eq m' c
  · unfold Cert.ProjKernelIdeal.RefValue.G1
    simp only [← h0, ← h1, ← h2, ← h3, ← h4, ← h5, ← h6, ← h7, ← h8, ← h9, ← h10, ← h11, ← h12]
    exact Cert.ProjReferenceIdeal.Read.val_main_v127_eq m' c
  · unfold Cert.ProjKernelIdeal.RefValue.G2
    simp only [← h0, ← h1, ← h2, ← h3, ← h4, ← h5, ← h6, ← h7, ← h8, ← h9, ← h10, ← h11, ← h12]
    exact Cert.ProjReferenceIdeal.Read.val_main_v128_eq _ _ _
  · unfold Cert.ProjKernelIdeal.RefValue.G3
    simp only [← h0, ← h1, ← h2, ← h3, ← h4, ← h5, ← h6, ← h7, ← h8, ← h9, ← h10, ← h11, ← h12]
    exact Cert.ProjReferenceIdeal.Read.val_main_v129_eq _ _ _
  · unfold Cert.ProjKernelIdeal.RefValue.G4
    simp only [← h0, ← h1, ← h2, ← h3, ← h4, ← h5, ← h6, ← h7, ← h8, ← h9, ← h10, ← h11, ← h12]
    exact Cert.ProjReferenceIdeal.Read.val_main_v130_eq _ _ _ _ _
  · unfold Cert.ProjKernelIdeal.RefValue.G5
    simp only [← h0, ← h1, ← h2, ← h3, ← h4, ← h5, ← h6, ← h7, ← h8, ← h9, ← h10, ← h11, ← h12]
    exact Cert.ProjReferenceIdeal.Read.val_main_v131_eq _ _ _ _ _
  · unfold Cert.ProjKernelIdeal.RefValue.G6
    simp only [← h0, ← h1, ← h2, ← h3, ← h4, ← h5, ← h6, ← h7, ← h8, ← h9, ← h10, ← h11, ← h12]
    exact Cert.ProjReferenceIdeal.Read.val_main_v132_eq _ _ _
  · unfold Cert.ProjKernelIdeal.RefValue.G7
    simp only [← h0, ← h1, ← h2, ← h3, ← h4, ← h5, ← h6, ← h7, ← h8, ← h9, ← h10, ← h11, ← h12]
    exact Cert.ProjReferenceIdeal.Read.val_main_v133_eq _ _ _
  · unfold Cert.ProjKernelIdeal.RefValue.G8
    simp only [← h0, ← h1, ← h2, ← h3, ← h4, ← h5, ← h6, ← h7, ← h8, ← h9, ← h10, ← h11, ← h12]
    exact Cert.ProjReferenceIdeal.Read.val_main_v134_eq _ _ _

/-- The per-layer embedding: the reference runs and leaves its arguments. -/
theorem ple_reference (m : (ℓ : Loc Cert.PleReferenceIdeal.nD Cert.PleReferenceIdeal.τ Cert.PleReferenceIdeal.sig) → Buf (Elt Ideal) ℓ) (ρ : Dev Cert.PleReferenceIdeal.nD → PrngReg) :
    θ_run (Cert.PleReferenceIdeal.defs (F := Ideal)) (onTc (τ := Cert.PleReferenceIdeal.τ) (Cert.PleReferenceIdeal.main (F := Ideal))) ⟨m, fun _ => 0, ρ⟩
      (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0) :=
  (θ_run Cert.PleReferenceIdeal.defs _ _).mono
    (fun r h => ⟨fun c => (h c).2, Idealize.ShloMosaic.sem_eq_zero_of_no_sems (by decide) r.2⟩)
    (Cert.PleReferenceIdeal.Value.run (F := Ideal) m ρ)

/-- The per-layer embedding: the kernel's results are the reference's. -/
theorem ple_algebraic : Cert.algebraic_PleKernelIdeal_PleReferenceIdeal := by
  intro m ρ m' ρ' _ hagree
  refine ⟨fun c => Cert.PleKernelIdeal.RefValue.G m c, Cert.PleKernelIdeal.RefValue.run m ρ, ?_⟩
  refine (θ_run Cert.PleReferenceIdeal.defs _ _).mono (fun _ h c => ?_) (Cert.PleReferenceIdeal.Value.run (F := Ideal) m' ρ')
  obtain ⟨h0, h1, h2, h3, h4, h5⟩ := hagree c
  refine ⟨((h c).1).trans ?_, (h c).2⟩
  · unfold Cert.PleKernelIdeal.RefValue.G
    simp only [← h0, ← h1, ← h2, ← h3, ← h4, ← h5]
    exact Cert.PleReferenceIdeal.Read.val_main_v23_eq _ _ _ _ _

/-- The last per-layer embedding: the reference runs and leaves its arguments. -/
theorem pleLast_reference (m : (ℓ : Loc Cert.PleLastReferenceIdeal.nD Cert.PleLastReferenceIdeal.τ Cert.PleLastReferenceIdeal.sig) → Buf (Elt Ideal) ℓ) (ρ : Dev Cert.PleLastReferenceIdeal.nD → PrngReg) :
    θ_run (Cert.PleLastReferenceIdeal.defs (F := Ideal)) (onTc (τ := Cert.PleLastReferenceIdeal.τ) (Cert.PleLastReferenceIdeal.main (F := Ideal))) ⟨m, fun _ => 0, ρ⟩
      (fun r => (∀ c : Dev Cert.PleLastReferenceIdeal.nD,
      r.2.mem ((c.tc : Thread Cert.PleLastReferenceIdeal.nD Cert.PleLastReferenceIdeal.τ).loc Cert.PleLastReferenceIdeal.main_arg0) = m ((c.tc : Thread Cert.PleLastReferenceIdeal.nD Cert.PleLastReferenceIdeal.τ).loc Cert.PleLastReferenceIdeal.main_arg0)
      ∧ r.2.mem ((c.tc : Thread Cert.PleLastReferenceIdeal.nD Cert.PleLastReferenceIdeal.τ).loc Cert.PleLastReferenceIdeal.main_arg1) = m ((c.tc : Thread Cert.PleLastReferenceIdeal.nD Cert.PleLastReferenceIdeal.τ).loc Cert.PleLastReferenceIdeal.main_arg1)
      ∧ r.2.mem ((c.tc : Thread Cert.PleLastReferenceIdeal.nD Cert.PleLastReferenceIdeal.τ).loc Cert.PleLastReferenceIdeal.main_arg2) = m ((c.tc : Thread Cert.PleLastReferenceIdeal.nD Cert.PleLastReferenceIdeal.τ).loc Cert.PleLastReferenceIdeal.main_arg2)
      ∧ r.2.mem ((c.tc : Thread Cert.PleLastReferenceIdeal.nD Cert.PleLastReferenceIdeal.τ).loc Cert.PleLastReferenceIdeal.main_arg3) = m ((c.tc : Thread Cert.PleLastReferenceIdeal.nD Cert.PleLastReferenceIdeal.τ).loc Cert.PleLastReferenceIdeal.main_arg3)
      ∧ r.2.mem ((c.tc : Thread Cert.PleLastReferenceIdeal.nD Cert.PleLastReferenceIdeal.τ).loc Cert.PleLastReferenceIdeal.main_arg4) = m ((c.tc : Thread Cert.PleLastReferenceIdeal.nD Cert.PleLastReferenceIdeal.τ).loc Cert.PleLastReferenceIdeal.main_arg4)
      ∧ r.2.mem ((c.tc : Thread Cert.PleLastReferenceIdeal.nD Cert.PleLastReferenceIdeal.τ).loc Cert.PleLastReferenceIdeal.main_arg5) = m ((c.tc : Thread Cert.PleLastReferenceIdeal.nD Cert.PleLastReferenceIdeal.τ).loc Cert.PleLastReferenceIdeal.main_arg5))
      ∧ r.2.sem = fun _ => 0) :=
  (θ_run Cert.PleLastReferenceIdeal.defs _ _).mono
    (fun r h => ⟨fun c => (h c).2, Idealize.ShloMosaic.sem_eq_zero_of_no_sems (by decide) r.2⟩)
    (Cert.PleLastReferenceIdeal.Value.run (F := Ideal) m ρ)

/-- The last per-layer embedding: the kernel's results are the reference's. -/
theorem pleLast_algebraic : Cert.algebraic_PleLastKernelIdeal_PleLastReferenceIdeal := by
  intro m ρ m' ρ' _ hagree
  refine ⟨fun c => Cert.PleLastKernelIdeal.RefValue.G m c, Cert.PleLastKernelIdeal.RefValue.run m ρ, ?_⟩
  refine (θ_run Cert.PleLastReferenceIdeal.defs _ _).mono (fun _ h c => ?_) (Cert.PleLastReferenceIdeal.Value.run (F := Ideal) m' ρ')
  obtain ⟨h0, h1, h2, h3, h4, h5⟩ := hagree c
  refine ⟨((h c).1).trans ?_, (h c).2⟩
  · unfold Cert.PleLastKernelIdeal.RefValue.G
    simp only [← h0, ← h1, ← h2, ← h3, ← h4, ← h5]
    exact Cert.PleLastReferenceIdeal.Read.val_main_v35_eq m' c

theorem claim : Cert.Claim := ⟨Cert.AttnKernel.Gen.facts, Cert.AttnKernelIdeal.Gen.facts, Cert.AttnReferenceIdeal.Gen.facts, Cert.FfnKernel.Gen.facts, Cert.FfnKernelIdeal.Gen.facts, Cert.FfnReferenceIdeal.Gen.facts, Cert.MergeKernel.Gen.facts, Cert.MergeKernelIdeal.Gen.facts, Cert.MergeReferenceIdeal.Gen.facts, Cert.ProjKernel.Gen.facts, Cert.ProjKernelIdeal.Gen.facts, Cert.ProjReferenceIdeal.Gen.facts, Cert.PleKernel.Gen.facts, Cert.PleKernelIdeal.Gen.facts, Cert.PleReferenceIdeal.Gen.facts, Cert.PleLastKernel.Gen.facts, Cert.PleLastKernelIdeal.Gen.facts, Cert.PleLastReferenceIdeal.Gen.facts, Cert.Pre_attn_finite.Gen.facts, Cert.Pre_merge_finite.Gen.facts, Cert.Pre_proj_finite.Gen.facts,
  fun m ρ _ => Cert.AttnKernel.Gen.frame m ρ,
  fun m ρ _ => Cert.AttnKernelIdeal.Gen.frame m ρ,
  fun m ρ _ => Cert.AttnKernelIdeal.Gen.frame m ρ,
  fun m ρ _ => attn_reference m ρ,
  fun m ρ _ => attn_reference m ρ,
  fun m ρ _ => Cert.FfnKernel.Gen.frame m ρ,
  fun m ρ _ => Cert.FfnKernelIdeal.Gen.frame m ρ,
  fun m ρ _ => ffn_reference m ρ,
  fun m ρ _ => Cert.MergeKernel.Gen.frame m ρ,
  fun m ρ _ => Cert.MergeKernelIdeal.Gen.frame m ρ,
  fun m ρ _ => Cert.MergeKernelIdeal.Gen.frame m ρ,
  fun m ρ _ => merge_reference m ρ,
  fun m ρ _ => merge_reference m ρ,
  fun m ρ _ => Cert.ProjKernel.Gen.frame m ρ,
  fun m ρ _ => Cert.ProjKernelIdeal.Gen.frame m ρ,
  fun m ρ _ => Cert.ProjKernelIdeal.Gen.frame m ρ,
  fun m ρ _ => proj_reference m ρ,
  fun m ρ _ => proj_reference m ρ,
  fun m ρ _ => Cert.PleKernel.Gen.frame m ρ,
  fun m ρ _ => Cert.PleKernelIdeal.Gen.frame m ρ,
  fun m ρ _ => ple_reference m ρ,
  fun m ρ _ => Cert.PleLastKernel.Gen.frame m ρ,
  fun m ρ _ => Cert.PleLastKernelIdeal.Gen.frame m ρ,
  fun m ρ _ => pleLast_reference m ρ,
  trivial,
  attn_algebraic,
  trivial,
  ffn_algebraic,
  trivial,
  merge_algebraic,
  trivial,
  proj_algebraic,
  trivial,
  ple_algebraic,
  trivial,
  pleLast_algebraic⟩

end Cert.Proof

end
